-- ==== Defs.lean ====
def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_TakeIdeal (m : (ℓ : Loc Cert.TakeIdeal.nD Cert.TakeIdeal.τ Cert.TakeIdeal.sig) → Buf (Elt Ideal) ℓ) : Prop :=
  True

def Pre_TakeIdeal_in_range [hPre_in_range : Cert.Pre_in_range.Facts] (m : (ℓ : Loc Cert.TakeIdeal.nD Cert.TakeIdeal.τ Cert.TakeIdeal.sig) → Buf (Elt Ideal) ℓ) : Prop :=
  ∀ c : Dev Cert.TakeIdeal.nD,
    (Cert.Pre_in_range.fn (F := Ideal) (m ((c.tc : Thread Cert.TakeIdeal.nD Cert.TakeIdeal.τ).loc Cert.TakeIdeal.main_arg0)) (m ((c.tc : Thread Cert.TakeIdeal.nD Cert.TakeIdeal.τ).loc Cert.TakeIdeal.main_arg1))) = (fun _ => 1#1)

def Pre_Take [hPre_in_range : Cert.Pre_in_range.Facts] (m : (ℓ : Loc Cert.Take.nD Cert.Take.τ Cert.Take.sig) → Buf (Elt Bits) ℓ) : Prop :=
  ∀ c : Dev Cert.Take.nD,
    (Cert.Pre_in_range.fn (F := Bits) (m ((c.tc : Thread Cert.Take.nD Cert.Take.τ).loc Cert.Take.main_arg0)) (m ((c.tc : Thread Cert.Take.nD Cert.Take.τ).loc Cert.Take.main_arg1))) = (fun _ => 1#1)

def Pre_Sim (m : (ℓ : Loc Cert.Sim.nD Cert.Sim.τ Cert.Sim.sig) → Buf (Elt Bits) ℓ) : Prop :=
  True

def Pre_Sim_no_tie_rows [hPre_no_tie_rows : Cert.Pre_no_tie_rows.Facts] (m : (ℓ : Loc Cert.Sim.nD Cert.Sim.τ Cert.Sim.sig) → Buf (Elt Bits) ℓ) : Prop :=
  ∀ c : Dev Cert.Sim.nD,
    (Cert.Pre_no_tie_rows.fn (F := Bits) (m ((c.tc : Thread Cert.Sim.nD Cert.Sim.τ).loc Cert.Sim.main_arg0)) (m ((c.tc : Thread Cert.Sim.nD Cert.Sim.τ).loc Cert.Sim.main_arg1))) = (fun _ => 1#1)

def Pre_SimIdeal [hPre_no_tie_rows : Cert.Pre_no_tie_rows.Facts] (m : (ℓ : Loc Cert.SimIdeal.nD Cert.SimIdeal.τ Cert.SimIdeal.sig) → Buf (Elt Ideal) ℓ) : Prop :=
  ∀ c : Dev Cert.SimIdeal.nD,
    (Cert.Pre_no_tie_rows.fn (F := Ideal) (m ((c.tc : Thread Cert.SimIdeal.nD Cert.SimIdeal.τ).loc Cert.SimIdeal.main_arg0)) (m ((c.tc : Thread Cert.SimIdeal.nD Cert.SimIdeal.τ).loc Cert.SimIdeal.main_arg1))) = (fun _ => 1#1)

def Pre_KernelIdeal [hPre_no_tie_KernelIdeal : Cert.Pre_no_tie_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_ReferenceIdeal [hPre_no_tie_ReferenceIdeal : Cert.Pre_no_tie_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_TakeIdeal [hTakeIdeal : Cert.TakeIdeal.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def quiescent_TakeIdeal_pre_in_range [hTakeIdeal : Cert.TakeIdeal.Facts] [hPre_in_range : Cert.Pre_in_range.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal_in_range m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def quiescent_Take [hTake : Cert.Take.Facts] [hPre_in_range : Cert.Pre_in_range.Facts] : Prop :=
  ∀ (m : (ℓ : Loc Cert.Take.nD Cert.Take.τ Cert.Take.sig) → Buf (Elt Bits) ℓ) (g : Dev Cert.Take.nD → PrngReg), Pre_Take m →
    θ_run (Cert.Take.defs (F := Bits)) (onTc (τ := Cert.Take.τ) (Cert.Take.main (F := Bits))) ⟨m, fun _ => 0, g⟩ (fun r => (∀ c : Dev Cert.Take.nD,
      r.2.mem ((c.tc : Thread Cert.Take.nD Cert.Take.τ).loc Cert.Take.main_arg0) = m ((c.tc : Thread Cert.Take.nD Cert.Take.τ).loc Cert.Take.main_arg0)
      ∧ r.2.mem ((c.tc : Thread Cert.Take.nD Cert.Take.τ).loc Cert.Take.main_arg1) = m ((c.tc : Thread Cert.Take.nD Cert.Take.τ).loc Cert.Take.main_arg1))
      ∧ r.2.sem = fun _ => 0)

def quiescent_Sim [hSim : Cert.Sim.Facts] : Prop :=
  ∀ (m : (ℓ : Loc Cert.Sim.nD Cert.Sim.τ Cert.Sim.sig) → Buf (Elt Bits) ℓ) (g : Dev Cert.Sim.nD → PrngReg), Pre_Sim m →
    θ_run (Cert.Sim.defs (F := Bits)) (onTc (τ := Cert.Sim.τ) (Cert.Sim.main (F := Bits))) ⟨m, fun _ => 0, g⟩ (fun r => (∀ c : Dev Cert.Sim.nD,
      r.2.mem ((c.tc : Thread Cert.Sim.nD Cert.Sim.τ).loc Cert.Sim.main_arg0) = m ((c.tc : Thread Cert.Sim.nD Cert.Sim.τ).loc Cert.Sim.main_arg0)
      ∧ r.2.mem ((c.tc : Thread Cert.Sim.nD Cert.Sim.τ).loc Cert.Sim.main_arg1) = m ((c.tc : Thread Cert.Sim.nD Cert.Sim.τ).loc Cert.Sim.main_arg1))
      ∧ r.2.sem = fun _ => 0)

def quiescent_Sim_pre_no_tie_rows [hSim : Cert.Sim.Facts] [hPre_no_tie_rows : Cert.Pre_no_tie_rows.Facts] : Prop :=
  ∀ (m : (ℓ : Loc Cert.Sim.nD Cert.Sim.τ Cert.Sim.sig) → Buf (Elt Bits) ℓ) (g : Dev Cert.Sim.nD → PrngReg), Pre_Sim_no_tie_rows m →
    θ_run (Cert.Sim.defs (F := Bits)) (onTc (τ := Cert.Sim.τ) (Cert.Sim.main (F := Bits))) ⟨m, fun _ => 0, g⟩ (fun r => (∀ c : Dev Cert.Sim.nD,
      r.2.mem ((c.tc : Thread Cert.Sim.nD Cert.Sim.τ).loc Cert.Sim.main_arg0) = m ((c.tc : Thread Cert.Sim.nD Cert.Sim.τ).loc Cert.Sim.main_arg0)
      ∧ r.2.mem ((c.tc : Thread Cert.Sim.nD Cert.Sim.τ).loc Cert.Sim.main_arg1) = m ((c.tc : Thread Cert.Sim.nD Cert.Sim.τ).loc Cert.Sim.main_arg1))
      ∧ r.2.sem = fun _ => 0)

def quiescent_SimIdeal [hSimIdeal : Cert.SimIdeal.Facts] [hPre_no_tie_rows : Cert.Pre_no_tie_rows.Facts] : Prop :=
  ∀ (m : (ℓ : Loc Cert.SimIdeal.nD Cert.SimIdeal.τ Cert.SimIdeal.sig) → Buf (Elt Ideal) ℓ) (g : Dev Cert.SimIdeal.nD → PrngReg), Pre_SimIdeal m →
    θ_run (Cert.SimIdeal.defs (F := Ideal)) (onTc (τ := Cert.SimIdeal.τ) (Cert.SimIdeal.main (F := Ideal))) ⟨m, fun _ => 0, g⟩ (fun r => (∀ c : Dev Cert.SimIdeal.nD,
      r.2.mem ((c.tc : Thread Cert.SimIdeal.nD Cert.SimIdeal.τ).loc Cert.SimIdeal.main_arg0) = m ((c.tc : Thread Cert.SimIdeal.nD Cert.SimIdeal.τ).loc Cert.SimIdeal.main_arg0)
      ∧ r.2.mem ((c.tc : Thread Cert.SimIdeal.nD Cert.SimIdeal.τ).loc Cert.SimIdeal.main_arg1) = m ((c.tc : Thread Cert.SimIdeal.nD Cert.SimIdeal.τ).loc Cert.SimIdeal.main_arg1))
      ∧ r.2.sem = fun _ => 0)

def quiescent_KernelIdeal [hKernelIdeal : Cert.KernelIdeal.Facts] [hPre_no_tie_KernelIdeal : Cert.Pre_no_tie_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie_ReferenceIdeal [hReferenceIdeal : Cert.ReferenceIdeal.Facts] [hPre_no_tie_ReferenceIdeal : Cert.Pre_no_tie_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Gather_GatherIdeal : Prop :=
  True

def algebraic_GatherIdeal_TakeIdeal [hGatherIdeal : Cert.GatherIdeal.Facts] [hTakeIdeal : Cert.TakeIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.TakeIdeal.nD Cert.TakeIdeal.τ Cert.TakeIdeal.sig) → Buf (Elt Ideal) ℓ) (g' : Dev Cert.TakeIdeal.nD → PrngReg), Pre_GatherIdeal m →
    (∀ c : Dev Cert.GatherIdeal.nD,
      m' ((c.tc : Thread Cert.TakeIdeal.nD Cert.TakeIdeal.τ).loc Cert.TakeIdeal.main_arg0) = m ((c.tc : Thread Cert.GatherIdeal.nD Cert.GatherIdeal.τ).loc Cert.GatherIdeal.main_arg0)
      ∧ m' ((c.tc : Thread Cert.TakeIdeal.nD Cert.TakeIdeal.τ).loc Cert.TakeIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v3)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v3) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.TakeIdeal.defs (F := Ideal)) (onTc (τ := Cert.TakeIdeal.τ) (Cert.TakeIdeal.main (F := Ideal))) ⟨m', fun _ => 0, g'⟩ (fun r => ∀ c : Dev Cert.TakeIdeal.nD,
          r.2.mem ((c.tc : Thread Cert.TakeIdeal.nD Cert.TakeIdeal.τ).loc Cert.TakeIdeal.main_v0) = v0 c
          ∧ r.2.mem ((c.tc : Thread Cert.TakeIdeal.nD Cert.TakeIdeal.τ).loc Cert.TakeIdeal.main_arg0) = m' ((c.tc : Thread Cert.TakeIdeal.nD Cert.TakeIdeal.τ).loc Cert.TakeIdeal.main_arg0)
          ∧ r.2.mem ((c.tc : Thread Cert.TakeIdeal.nD Cert.TakeIdeal.τ).loc Cert.TakeIdeal.main_arg1) = m' ((c.tc : Thread Cert.TakeIdeal.nD Cert.TakeIdeal.τ).loc Cert.TakeIdeal.main_arg1))

def bitexact_Gather_Take [hGather : Cert.Gather.Facts] [hTake : Cert.Take.Facts] [hPre_in_range : Cert.Pre_in_range.Facts] : Prop :=
  ∀ (m : (ℓ : Loc Cert.Gather.nD Cert.Gather.τ Cert.Gather.sig) → Buf (Elt Bits) ℓ) (g : Dev Cert.Gather.nD → PrngReg)
    (m' : (ℓ : Loc Cert.Take.nD Cert.Take.τ Cert.Take.sig) → Buf (Elt Bits) ℓ) (g' : Dev Cert.Take.nD → PrngReg), Pre_Gather m →
    (∀ c : Dev Cert.Gather.nD,
      m' ((c.tc : Thread Cert.Take.nD Cert.Take.τ).loc Cert.Take.main_arg0) = m ((c.tc : Thread Cert.Gather.nD Cert.Gather.τ).loc Cert.Gather.main_arg0)
      ∧ m' ((c.tc : Thread Cert.Take.nD Cert.Take.τ).loc Cert.Take.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v3)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v3) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Take.defs (F := Bits)) (onTc (τ := Cert.Take.τ) (Cert.Take.main (F := Bits))) ⟨m', fun _ => 0, g'⟩ (fun r => ∀ c : Dev Cert.Take.nD,
          r.2.mem ((c.tc : Thread Cert.Take.nD Cert.Take.τ).loc Cert.Take.main_v0) = v0 c
          ∧ r.2.mem ((c.tc : Thread Cert.Take.nD Cert.Take.τ).loc Cert.Take.main_arg0) = m' ((c.tc : Thread Cert.Take.nD Cert.Take.τ).loc Cert.Take.main_arg0)
          ∧ r.2.mem ((c.tc : Thread Cert.Take.nD Cert.Take.τ).loc Cert.Take.main_arg1) = m' ((c.tc : Thread Cert.Take.nD Cert.Take.τ).loc Cert.Take.main_arg1))

def preserves_Sim_SimIdeal : Prop :=
  True

def algebraic_KernelIdeal_ReferenceIdeal [hKernelIdeal : Cert.KernelIdeal.Facts] [hReferenceIdeal : Cert.ReferenceIdeal.Facts] [hPre_no_tie_KernelIdeal : Cert.Pre_no_tie_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1024, 32]⟩ ⟨3, ![16, 1024, 32]⟩ 0 2 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)) (v1 : Buf (Elt Ideal) (((0 : Dev Cert.ReferenceIdeal.nD).tc : Thread Cert.ReferenceIdeal.nD Cert.ReferenceIdeal.τ).loc Cert.ReferenceIdeal.main_v12)) (v2 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![8, 1024, 32]⟩ ⟨3, ![16, 1024, 32]⟩ 0 2 c v0
          ∧ r.2.mem ((c.tc : Thread Cert.KernelIdeal.nD Cert.KernelIdeal.τ).loc Cert.KernelIdeal.main_v9) = Layout.block ⟨2, ![8, 1024]⟩ ⟨2, ![16, 1024]⟩ 0 2 c v1
          ∧ r.2.mem ((c.tc : Thread Cert.KernelIdeal.nD Cert.KernelIdeal.τ).loc Cert.KernelIdeal.main_v10) = Layout.block ⟨3, ![8, 1024, 8192]⟩ ⟨3, ![16, 1024, 8192]⟩ 0 2 c v2
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_v12) = v1
          ∧ r.2.mem (((0 : Dev Cert.ReferenceIdeal.nD).tc : Thread Cert.ReferenceIdeal.nD Cert.ReferenceIdeal.τ).loc Cert.ReferenceIdeal.main_v13) = v2
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hGather : Cert.Gather.Facts) (hGatherIdeal : Cert.GatherIdeal.Facts) (hTakeIdeal : Cert.TakeIdeal.Facts) (hTake : Cert.Take.Facts) (hSim : Cert.Sim.Facts) (hSimIdeal : Cert.SimIdeal.Facts) (hKernelIdeal : Cert.KernelIdeal.Facts) (hReferenceIdeal : Cert.ReferenceIdeal.Facts) (hPre_in_range : Cert.Pre_in_range.Facts) (hPre_no_tie_rows : Cert.Pre_no_tie_rows.Facts) (hPre_no_tie_KernelIdeal : Cert.Pre_no_tie_KernelIdeal.Facts) (hPre_no_tie_ReferenceIdeal : Cert.Pre_no_tie_ReferenceIdeal.Facts),
    quiescent_Gather (hGather := hGather) (hPre_in_range := hPre_in_range)
    ∧ quiescent_GatherIdeal (hGatherIdeal := hGatherIdeal) (hPre_in_range := hPre_in_range)
    ∧ quiescent_TakeIdeal (hTakeIdeal := hTakeIdeal)
    ∧ quiescent_TakeIdeal_pre_in_range (hTakeIdeal := hTakeIdeal) (hPre_in_range := hPre_in_range)
    ∧ quiescent_Take (hTake := hTake) (hPre_in_range := hPre_in_range)
    ∧ quiescent_Sim (hSim := hSim)
    ∧ quiescent_Sim_pre_no_tie_rows (hSim := hSim) (hPre_no_tie_rows := hPre_no_tie_rows)
    ∧ quiescent_SimIdeal (hSimIdeal := hSimIdeal) (hPre_no_tie_rows := hPre_no_tie_rows)
    ∧ quiescent_KernelIdeal (hKernelIdeal := hKernelIdeal) (hPre_no_tie_KernelIdeal := hPre_no_tie_KernelIdeal)
    ∧ quiescent_ReferenceIdeal (hReferenceIdeal := hReferenceIdeal)
    ∧ quiescent_ReferenceIdeal_pre_no_tie_ReferenceIdeal (hReferenceIdeal := hReferenceIdeal) (hPre_no_tie_ReferenceIdeal := hPre_no_tie_ReferenceIdeal)
    ∧ preserves_Gather_GatherIdeal
    ∧ algebraic_GatherIdeal_TakeIdeal (hGatherIdeal := hGatherIdeal) (hTakeIdeal := hTakeIdeal) (hPre_in_range := hPre_in_range)
    ∧ bitexact_Gather_Take (hGather := hGather) (hTake := hTake) (hPre_in_range := hPre_in_range)
    ∧ preserves_Sim_SimIdeal
    ∧ algebraic_KernelIdeal_ReferenceIdeal (hKernelIdeal := hKernelIdeal) (hReferenceIdeal := hReferenceIdeal) (hPre_no_tie_KernelIdeal := hPre_no_tie_KernelIdeal)
-- ==== Pre_in_range.lean ====
abbrev S8192x32 : Shape := ⟨2, ![8192, 32]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S8192x32 .f32) (main_arg1 : IVec S8192 32) : IVec S8192 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 8192#32
  let main_v2 : IVec S8192 32 := broadcastInDim S8192 ![] bcast_S_S8192 main_c_0
  let main_v3 : IVec S8192 1 := cmpi .slt main_arg1 main_v2
  let main_v4 : IVec S8192 1 := andi main_v1 main_v3
  main_v4
-- ==== Pre_no_tie_KernelIdeal.lean ====
abbrev S8x1024x32 : Shape := ⟨3, ![8, 1024, 32]⟩
abbrev S1x8192x32 : Shape := ⟨3, ![1, 8192, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

class Facts : Prop where
  shapeCasts_S8x1024x32_S8192x32 : S8x1024x32.ShapeCasts S8192x32
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  shapeCasts_S1x8192x32_S8192x32 : S1x8192x32.ShapeCasts S8192x32
  reducesTo_S8192x8192_S8192_d1 : S8192x8192.ReducesTo [1] S8192
  bcast_S8192x1_S8192x8192_0_1 : S8192x1.BroadcastsInDim S8192x8192 (![0, 1] : Fin 2 → Fin S8192x8192.rank)
  natLt_1_32 : 1 < 32
  bcast_S_S8192 : S_.BroadcastsInDim S8192 (![] : Fin 0 → Fin S8192.rank)
  dot_S8192x32_S8192x32_S8192x8192_1_1_0_0_n_n_wf : DotDims.WF S8192x32 S8192x32 S8192x8192 [1] [1] [0] [0] [] []

variable [Facts]

def dot_S8192x32_S8192x32_S8192x8192_1_1_0_0_n_n : DotDims S8192x32 S8192x32 S8192x8192 where
  lhsContracting := [1]
  rhsContracting := [1]
  lhsNonContracting := [0]
  rhsNonContracting := [0]
  lhsBatch := []
  rhsBatch := []
  wf := dot_S8192x32_S8192x32_S8192x8192_1_1_0_0_n_n_wf
def fn_norm {F : FTy → Type} [FloatOps F] (arg0 : FVec F S8192x32 .f32) : FVec F S8192x1 .f32 :=
  let v0 : FVec F S8192x32 .f32 := mulf arg0 arg0
  let cst : FVec F S_ .f32 := constant S_ .f32 0x00000000#32
  let v1 : FVec F S8192 .f32 := (fun x v => Host.reduceAdd x v reducesTo_S8192x32_S8192_d1 h_S_) v0 cst
  let v2 : FVec F S8192x1 .f32 := broadcastInDim S8192x1 ![0] bcast_S8192_S8192x1_0 v1
  let v3 : FVec F S8192x1 .f32 := Host.sqrt v2
  v3

def fn_clip {F : FTy → Type} [FloatOps F] (arg0 : FVec F S8192x1 .f32) (arg1 : FVec F S_ .f32) : FVec F S8192x1 .f32 :=
  let v0 : FVec F S_ .f32 := id arg1
  let v1 : FVec F S8192x1 .f32 := broadcastInDim S8192x1 ![] bcast_S_S8192x1 v0
  let v2 : FVec F S8192x1 .f32 := maximumf v1 arg0
  v2

def fn {F : FTy → Type} [FloatOps F] (main_arg0 : FVec F S8x1024x32 .f32) (main_arg1 : FVec F S1x8192x32 .f32) : IVec S8192 1 :=
  let main_v0 : FVec F S8192x32 .f32 := shapeCast S8192x32 main_arg0 shapeCasts_S8x1024x32_S8192x32
  let main_v1 : FVec F S8192x1 .f32 := fn_norm (F := F) main_v0
  let main_cst : FVec F S_ .f32 := constant S_ .f32 0x2B8CBCCC#32
  let main_v2 : FVec F S8192x1 .f32 := fn_clip (F := F) main_v1 main_cst
  let main_v3 : FVec F S8192x32 .f32 := broadcastInDim S8192x32 ![0, 1] bcast_S8192x1_S8192x32_0_1 main_v2
  let main_v4 : FVec F S8192x32 .f32 := Host.divf main_v0 main_v3
  let main_v5 : FVec F S8192x32 .f32 := shapeCast S8192x32 main_arg1 shapeCasts_S1x8192x32_S8192x32
  let main_v6 : FVec F S8192x8192 .f32 := (fun l r => Host.dotGeneral dot_S8192x32_S8192x32_S8192x8192_1_1_0_0_n_n none l r) main_v4 main_v5
  let main_cst_0 : FVec F S_ .f32 := constant S_ .f32 0xFF800000#32
  let main_v7 : FVec F S8192 .f32 := (fun x v => Host.reduce FloatOps.maximumf x v reducesTo_S8192x8192_S8192_d1 h_S_) main_v6 main_cst_0
  let main_v8 : FVec F S8192x1 .f32 := broadcastInDim S8192x1 ![0] bcast_S8192_S8192x1_0 main_v7
  let main_v9 : FVec F S8192x8192 .f32 := broadcastInDim S8192x8192 ![0, 1] bcast_S8192x1_S8192x8192_0_1 main_v8
  let main_v10 : IVec S8192x8192 1 := cmpf .oeq main_v6 main_v9
  let main_v11 : IVec S8192x8192 32 := (extui 32 · natLt_1_32) main_v10
  let main_c : IVec S_ 32 := constantI S_ 32 0#32
  let main_v12 : IVec S8192 32 := (fun x v => Host.reduce IntOp.addi x v reducesTo_S8192x8192_S8192_d1 h_S_) main_v11 main_c
  let main_c_1 : IVec S_ 32 := constantI S_ 32 1#32
  let main_v13 : IVec S8192 32 := broadcastInDim S8192 ![] bcast_S_S8192 main_c_1
  let main_v14 : IVec S8192 1 := cmpi .eq main_v12 main_v13
  main_v14
-- ==== Pre_no_tie_ReferenceIdeal.lean ====
abbrev S16x1024x32 : Shape := ⟨3, ![16, 1024, 32]⟩
abbrev S1x8192x32 : Shape := ⟨3, ![1, 8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192x32 : Shape := ⟨2, ![8192, 32]⟩
abbrev S16384x8192 : Shape := ⟨2, ![16384, 8192]⟩

class Facts : Prop where
  shapeCasts_S16x1024x32_S16384x32 : S16x1024x32.ShapeCasts S16384x32
  reducesTo_S16384x32_S16384_d1 : S16384x32.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x32_0_1 : S16384x1.BroadcastsInDim S16384x32 (![0, 1] : Fin 2 → Fin S16384x32.rank)
  shapeCasts_S1x8192x32_S8192x32 : S1x8192x32.ShapeCasts S8192x32
  reducesTo_S16384x8192_S16384_d1 : S16384x8192.ReducesTo [1] S16384
  bcast_S16384x1_S16384x8192_0_1 : S16384x1.BroadcastsInDim S16384x8192 (![0, 1] : Fin 2 → Fin S16384x8192.rank)
  natLt_1_32 : 1 < 32
  bcast_S_S16384 : S_.BroadcastsInDim S16384 (![] : Fin 0 → Fin S16384.rank)
  dot_S16384x32_S8192x32_S16384x8192_1_1_0_0_n_n_wf : DotDims.WF S16384x32 S8192x32 S16384x8192 [1] [1] [0] [0] [] []

variable [Facts]

def dot_S16384x32_S8192x32_S16384x8192_1_1_0_0_n_n : DotDims S16384x32 S8192x32 S16384x8192 where
  lhsContracting := [1]
  rhsContracting := [1]
  lhsNonContracting := [0]
  rhsNonContracting := [0]
  lhsBatch := []
  rhsBatch := []
  wf := dot_S16384x32_S8192x32_S16384x8192_1_1_0_0_n_n_wf
def fn_norm {F : FTy → Type} [FloatOps F] (arg0 : FVec F S16384x32 .f32) : FVec F S16384x1 .f32 :=
  let v0 : FVec F S16384x32 .f32 := mulf arg0 arg0
  let cst : FVec F S_ .f32 := constant S_ .f32 0x00000000#32
  let v1 : FVec F S16384 .f32 := (fun x v => Host.reduceAdd x v reducesTo_S16384x32_S16384_d1 h_S_) v0 cst
  let v2 : FVec F S16384x1 .f32 := broadcastInDim S16384x1 ![0] bcast_S16384_S16384x1_0 v1
  let v3 : FVec F S16384x1 .f32 := Host.sqrt v2
  v3

def fn_clip {F : FTy → Type} [FloatOps F] (arg0 : FVec F S16384x1 .f32) (arg1 : FVec F S_ .f32) : FVec F S16384x1 .f32 :=
  let v0 : FVec F S_ .f32 := id arg1
  let v1 : FVec F S16384x1 .f32 := broadcastInDim S16384x1 ![] bcast_S_S16384x1 v0
  let v2 : FVec F S16384x1 .f32 := maximumf v1 arg0
  v2

def fn {F : FTy → Type} [FloatOps F] (main_arg0 : FVec F S16x1024x32 .f32) (main_arg1 : FVec F S1x8192x32 .f32) : IVec S16384 1 :=
  let main_v0 : FVec F S16384x32 .f32 := shapeCast S16384x32 main_arg0 shapeCasts_S16x1024x32_S16384x32
  let main_v1 : FVec F S16384x1 .f32 := fn_norm (F := F) main_v0
  let main_cst : FVec F S_ .f32 := constant S_ .f32 0x2B8CBCCC#32
  let main_v2 : FVec F S16384x1 .f32 := fn_clip (F := F) main_v1 main_cst
  let main_v3 : FVec F S16384x32 .f32 := broadcastInDim S16384x32 ![0, 1] bcast_S16384x1_S16384x32_0_1 main_v2
  let main_v4 : FVec F S16384x32 .f32 := Host.divf main_v0 main_v3
  let main_v5 : FVec F S8192x32 .f32 := shapeCast S8192x32 main_arg1 shapeCasts_S1x8192x32_S8192x32
  let main_v6 : FVec F S16384x8192 .f32 := (fun l r => Host.dotGeneral dot_S16384x32_S8192x32_S16384x8192_1_1_0_0_n_n none l r) main_v4 main_v5
  let main_cst_0 : FVec F S_ .f32 := constant S_ .f32 0xFF800000#32
  let main_v7 : FVec F S16384 .f32 := (fun x v => Host.reduce FloatOps.maximumf x v reducesTo_S16384x8192_S16384_d1 h_S_) main_v6 main_cst_0
  let main_v8 : FVec F S16384x1 .f32 := broadcastInDim S16384x1 ![0] bcast_S16384_S16384x1_0 main_v7
  let main_v9 : FVec F S16384x8192 .f32 := broadcastInDim S16384x8192 ![0, 1] bcast_S16384x1_S16384x8192_0_1 main_v8
  let main_v10 : IVec S16384x8192 1 := cmpf .oeq main_v6 main_v9
  let main_v11 : IVec S16384x8192 32 := (extui 32 · natLt_1_32) main_v10
  let main_c : IVec S_ 32 := constantI S_ 32 0#32
  let main_v12 : IVec S16384 32 := (fun x v => Host.reduce IntOp.addi x v reducesTo_S16384x8192_S16384_d1 h_S_) main_v11 main_c
  let main_c_1 : IVec S_ 32 := constantI S_ 32 1#32
  let main_v13 : IVec S16384 32 := broadcastInDim S16384 ![] bcast_S_S16384 main_c_1
  let main_v14 : IVec S16384 1 := cmpi .eq main_v12 main_v13
  main_v14
-- ==== Pre_no_tie_rows.lean ====
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

class Facts : Prop where
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  reducesTo_S8192x8192_S8192_d1 : S8192x8192.ReducesTo [1] S8192
  bcast_S8192x1_S8192x8192_0_1 : S8192x1.BroadcastsInDim S8192x8192 (![0, 1] : Fin 2 → Fin S8192x8192.rank)
  natLt_1_32 : 1 < 32
  bcast_S_S8192 : S_.BroadcastsInDim S8192 (![] : Fin 0 → Fin S8192.rank)
  dot_S8192x32_S8192x32_S8192x8192_1_1_0_0_n_n_wf : DotDims.WF S8192x32 S8192x32 S8192x8192 [1] [1] [0] [0] [] []

variable [Facts]

def dot_S8192x32_S8192x32_S8192x8192_1_1_0_0_n_n : DotDims S8192x32 S8192x32 S8192x8192 where
  lhsContracting := [1]
  rhsContracting := [1]
  lhsNonContracting := [0]
  rhsNonContracting := [0]
  lhsBatch := []
  rhsBatch := []
  wf := dot_S8192x32_S8192x32_S8192x8192_1_1_0_0_n_n_wf
def fn_norm {F : FTy → Type} [FloatOps F] (arg0 : FVec F S8192x32 .f32) : FVec F S8192x1 .f32 :=
  let v0 : FVec F S8192x32 .f32 := mulf arg0 arg0
  let cst : FVec F S_ .f32 := constant S_ .f32 0x00000000#32
  let v1 : FVec F S8192 .f32 := (fun x v => Host.reduceAdd x v reducesTo_S8192x32_S8192_d1 h_S_) v0 cst
  let v2 : FVec F S8192x1 .f32 := broadcastInDim S8192x1 ![0] bcast_S8192_S8192x1_0 v1
  let v3 : FVec F S8192x1 .f32 := Host.sqrt v2
  v3

def fn_clip {F : FTy → Type} [FloatOps F] (arg0 : FVec F S8192x1 .f32) (arg1 : FVec F S_ .f32) : FVec F S8192x1 .f32 :=
  let v0 : FVec F S_ .f32 := id arg1
  let v1 : FVec F S8192x1 .f32 := broadcastInDim S8192x1 ![] bcast_S_S8192x1 v0
  let v2 : FVec F S8192x1 .f32 := maximumf v1 arg0
  v2

def fn {F : FTy → Type} [FloatOps F] (main_arg0 : FVec F S8192x32 .f32) (main_arg1 : FVec F S8192x32 .f32) : IVec S8192 1 :=
  let main_v0 : FVec F S8192x1 .f32 := fn_norm (F := F) main_arg0
  let main_cst : FVec F S_ .f32 := constant S_ .f32 0x2B8CBCCC#32
  let main_v1 : FVec F S8192x1 .f32 := fn_clip (F := F) main_v0 main_cst
  let main_v2 : FVec F S8192x32 .f32 := broadcastInDim S8192x32 ![0, 1] bcast_S8192x1_S8192x32_0_1 main_v1
  let main_v3 : FVec F S8192x32 .f32 := Host.divf main_arg0 main_v2
  let main_v4 : FVec F S8192x8192 .f32 := (fun l r => Host.dotGeneral dot_S8192x32_S8192x32_S8192x8192_1_1_0_0_n_n none l r) main_v3 main_arg1
  let main_cst_0 : FVec F S_ .f32 := constant S_ .f32 0xFF800000#32
  let main_v5 : FVec F S8192 .f32 := (fun x v => Host.reduce FloatOps.maximumf x v reducesTo_S8192x8192_S8192_d1 h_S_) main_v4 main_cst_0
  let main_v6 : FVec F S8192x1 .f32 := broadcastInDim S8192x1 ![0] bcast_S8192_S8192x1_0 main_v5
  let main_v7 : FVec F S8192x8192 .f32 := broadcastInDim S8192x8192 ![0, 1] bcast_S8192x1_S8192x8192_0_1 main_v6
  let main_v8 : IVec S8192x8192 1 := cmpf .oeq main_v4 main_v7
  let main_v9 : IVec S8192x8192 32 := (extui 32 · natLt_1_32) main_v8
  let main_c : IVec S_ 32 := constantI S_ 32 0#32
  let main_v10 : IVec S8192 32 := (fun x v => Host.reduce IntOp.addi x v reducesTo_S8192x8192_S8192_d1 h_S_) main_v9 main_c
  let main_c_1 : IVec S_ 32 := constantI S_ 32 1#32
  let main_v11 : IVec S8192 32 := broadcastInDim S8192 ![] bcast_S_S8192 main_c_1
  let main_v12 : IVec S8192 1 := cmpi .eq main_v10 main_v11
  main_v12
-- ==== Gather.lean ====
abbrev S8192x32 : Shape := ⟨2, ![8192, 32]⟩
abbrev S8192 : Shape := ⟨1, ![8192]⟩
abbrev S_ : Shape := ⟨0, ![]⟩
abbrev S8192x128 : Shape := ⟨2, ![8192, 128]⟩
abbrev S1x8192 : Shape := ⟨2, ![1, 8192]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩

abbrev nBuf : Table → Nat
  | .hbm => 8
  | .local .scVector .vmem => 2
  | _ => 0

abbrev bufTy : (tb : Table) → Fin (nBuf tb) → BufTy
  | .hbm, ⟨0, _⟩ => ⟨S8192x32, .f32⟩
  | .hbm, ⟨1, _⟩ => ⟨S8192, .i32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S1x8192, .i32⟩
  | .hbm, ⟨6, _⟩ => ⟨S8192x128, .f32⟩
  | .hbm, ⟨7, _⟩ => ⟨S8192x32, .f32⟩
  | .local .scVector .vmem, ⟨0, _⟩ => ⟨S2x1x256, .i32⟩
  | .local .scVector .vmem, ⟨1, _⟩ => ⟨S2x256x128, .f32⟩
  | _, _ => ⟨S8192x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_19_r0 : BitVec 32 := 0#32
  let c2_i32_r0 : BitVec 32 := 2#32
  let v20_r0 : BitVec 32 := Scalar.remui c0_i32_19_r0 c2_i32_r0
  let c0_i32_20_r0 : BitVec 32 := 0#32
  let c0_i32_21_r0 : BitVec 32 := 0#32
  ![v20_r0.toNat, 0, 0]
def k0_off2 (i : grid0.Coords) : Fin 2 → Nat :=
  let c0_i32_22_r0 : BitVec 32 := 0#32
  let c256_i32_r0 : BitVec 32 := 256#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c256_i32_r0 v7_r0
  ![0, v21_r0.toNat]
def k0_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k0_cond1 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v46_r0 : BitVec 1 := Scalar.cmpi .ne v33_r0 v41_r0
  let c0_i32_32_r0 : BitVec 32 := 0#32
  let c0_i32_54_r0 : BitVec 32 := 0#32
  let v47_r0 : BitVec 1 := Scalar.cmpi .sge c0_i32_32_r0 c0_i32_54_r0
  let true_55_r0 : BitVec 1 := 1#1
  let v48_r0 : BitVec 1 := Scalar.xori v47_r0 true_55_r0
  let v49_r0 : BitVec 1 := Scalar.andi v46_r0 v48_r0
  let true_56_r0 : BitVec 1 := 1#1
  let v50_r0 : BitVec 1 := Scalar.andi v49_r0 true_56_r0
  let v51_r0 : BitVec 32 := Scalar.extui v50_r0
  let c0_i32_57_r0 : BitVec 32 := 0#32
  let v52_r0 : BitVec 1 := Scalar.cmpi .ne v51_r0 c0_i32_57_r0
  v52_r0

def k0_off4 : Fin 3 → Nat :=
  let c0_i32_26_r0 : BitVec 32 := 0#32
  let c1_i32_27_r0 : BitVec 32 := 1#32
  let v30_r0 : BitVec 32 := Scalar.addi c0_i32_26_r0 c1_i32_27_r0
  let c2_i32_119_r0 : BitVec 32 := 2#32
  let v134_r0 : BitVec 32 := Scalar.remui v30_r0 c2_i32_119_r0
  let c0_i32_121_r0 : BitVec 32 := 0#32
  let c0_i32_122_r0 : BitVec 32 := 0#32
  ![v134_r0.toNat, 0, 0]
def k0_off5 (i : grid0.Coords) : Fin 2 → Nat :=
  let c0_i32_123_r0 : BitVec 32 := 0#32
  let c256_i32_120_r0 : BitVec 32 := 256#32
  let c0_i32_47_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_47_r0 v4
  let v135_r0 : BitVec 32 := Scalar.muli c256_i32_120_r0 v41_r0
  ![0, v135_r0.toNat]
def k0_off6 : Fin 1 → Nat :=
  let c0_i32_26_r0 : BitVec 32 := 0#32
  let c1_i32_27_r0 : BitVec 32 := 1#32
  let v30_r0 : BitVec 32 := Scalar.addi c0_i32_26_r0 c1_i32_27_r0
  let c2_i32_119_r0 : BitVec 32 := 2#32
  let v134_r0 : BitVec 32 := Scalar.remui v30_r0 c2_i32_119_r0
  ![v134_r0.toNat]
def k0_cond2 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v60_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let v61_r0 : BitVec 1 := Scalar.ori v60_r0 v31_r0
  let c0_i32_62_r0 : BitVec 32 := 0#32
  let v62_r0 : BitVec 1 := Scalar.cmpi .sge c0_i32_32_r0 c0_i32_62_r0
  let v63_r0 : BitVec 1 := Scalar.andi v61_r0 v62_r0
  let v64_r0 : BitVec 32 := Scalar.extui v63_r0
  let c0_i32_63_r0 : BitVec 32 := 0#32
  let v65_r0 : BitVec 1 := Scalar.cmpi .ne v64_r0 c0_i32_63_r0
  v65_r0

def k0_off7 : Fin 3 → Nat :=
  let c0_i32_28_r0 : BitVec 32 := 0#32
  let c2_i32_120_r0 : BitVec 32 := 2#32
  let v135_r0 : BitVec 32 := Scalar.remui c0_i32_28_r0 c2_i32_120_r0
  let c0_i32_121_r0 : BitVec 32 := 0#32
  let c0_i32_122_r0 : BitVec 32 := 0#32
  ![v135_r0.toNat, 0, 0]
def k0_off8 (i : grid0.Coords) : Fin 2 → Nat :=
  let c0_i32_123_r0 : BitVec 32 := 0#32
  let c256_i32_119_r0 : BitVec 32 := 256#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v134_r0 : BitVec 32 := Scalar.muli c256_i32_119_r0 v33_r0
  ![0, v134_r0.toNat]
def k0_off9 : Fin 1 → Nat :=
  let c0_i32_28_r0 : BitVec 32 := 0#32
  let c2_i32_120_r0 : BitVec 32 := 2#32
  let v135_r0 : BitVec 32 := Scalar.remui c0_i32_28_r0 c2_i32_120_r0
  ![v135_r0.toNat]
def k0_off10 : Fin 3 → Nat :=
  let c0_i32_29_r0 : BitVec 32 := 0#32
  let c2_i32_67_r0 : BitVec 32 := 2#32
  let v73_r0 : BitVec 32 := Scalar.remui c0_i32_29_r0 c2_i32_67_r0
  let c0_i32_119_r1 : BitVec 32 := 0#32
  let c0_i32_120_r1 : BitVec 32 := 0#32
  ![v73_r0.toNat, 0, 0]
def k0_cond5 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v79_r0 : BitVec 1 := Scalar.cmpi .ne v33_r0 v41_r0
  let c0_i32_32_r0 : BitVec 32 := 0#32
  let c0_i32_34_r0 : BitVec 32 := 0#32
  let v32_r0 : BitVec 1 := Scalar.cmpi .eq c0_i32_32_r0 c0_i32_34_r0
  let v80_r0 : BitVec 1 := Scalar.ori v79_r0 v32_r0
  let v81_r0 : BitVec 32 := Scalar.extui v80_r0
  let c0_i32_70_r0 : BitVec 32 := 0#32
  let v82_r0 : BitVec 1 := Scalar.cmpi .ne v81_r0 c0_i32_70_r0
  v82_r0

def k0_off11 : Fin 3 → Nat :=
  let c0_i32_29_r0 : BitVec 32 := 0#32
  let c2_i32_119_r0 : BitVec 32 := 2#32
  let v134_r0 : BitVec 32 := Scalar.remui c0_i32_29_r0 c2_i32_119_r0
  let c0_i32_121_r0 : BitVec 32 := 0#32
  let c0_i32_122_r0 : BitVec 32 := 0#32
  ![v134_r0.toNat, 0, 0]
def k0_off12 (i : grid0.Coords) : Fin 2 → Nat :=
  let c256_i32_120_r0 : BitVec 32 := 256#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v135_r0 : BitVec 32 := Scalar.muli c256_i32_120_r0 v33_r0
  let c0_i32_123_r0 : BitVec 32 := 0#32
  ![v135_r0.toNat, 0]
def k0_off13 : Fin 1 → Nat :=
  let c0_i32_29_r0 : BitVec 32 := 0#32
  let c2_i32_119_r0 : BitVec 32 := 2#32
  let v134_r0 : BitVec 32 := Scalar.remui c0_i32_29_r0 c2_i32_119_r0
  ![v134_r0.toNat]
def k0_cond7 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v92_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_76_r0 : BitVec 1 := 1#1
  let v93_r0 : BitVec 1 := Scalar.xori v31_r0 true_76_r0
  let v94_r0 : BitVec 1 := Scalar.andi v92_r0 v93_r0
  let v95_r0 : BitVec 32 := Scalar.extui v94_r0
  let c0_i32_77_r0 : BitVec 32 := 0#32
  let v96_r0 : BitVec 1 := Scalar.cmpi .ne v95_r0 c0_i32_77_r0
  v96_r0

def k0_off14 : Fin 3 → Nat :=
  let c0_i32_30_r0 : BitVec 32 := 0#32
  let c2_i32_119_r0 : BitVec 32 := 2#32
  let v134_r0 : BitVec 32 := Scalar.remui c0_i32_30_r0 c2_i32_119_r0
  let c0_i32_121_r0 : BitVec 32 := 0#32
  let c0_i32_122_r0 : BitVec 32 := 0#32
  ![v134_r0.toNat, 0, 0]
def k0_off15 (i : grid0.Coords) : Fin 2 → Nat :=
  let c256_i32_120_r0 : BitVec 32 := 256#32
  let c0_i32_41_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_41_r0 v4
  let v135_r0 : BitVec 32 := Scalar.muli c256_i32_120_r0 v37_r0
  let c0_i32_123_r0 : BitVec 32 := 0#32
  ![v135_r0.toNat, 0]
def k0_off16 : Fin 1 → Nat :=
  let c0_i32_30_r0 : BitVec 32 := 0#32
  let c2_i32_119_r0 : BitVec 32 := 2#32
  let v134_r0 : BitVec 32 := Scalar.remui c0_i32_30_r0 c2_i32_119_r0
  ![v134_r0.toNat]
def k0_off17 (i : grid0.Coords) : Fin 3 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v92_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_76_r0 : BitVec 1 := 1#1
  let v93_r0 : BitVec 1 := Scalar.xori v31_r0 true_76_r0
  let v94_r0 : BitVec 1 := Scalar.andi v92_r0 v93_r0
  let true_78_r0 : BitVec 1 := 1#1
  let v97_r0 : BitVec 1 := Scalar.andi v94_r0 true_78_r0
  let c0_i32_30_r0 : BitVec 32 := 0#32
  let c1_i32_79_r0 : BitVec 32 := 1#32
  let v98_r0 : BitVec 32 := Scalar.addi c0_i32_30_r0 c1_i32_79_r0
  let v99_r0 : BitVec 32 := Scalar.select v97_r0 v98_r0 c0_i32_30_r0
  let c2_i32_111_r0 : BitVec 32 := 2#32
  let v124_r0 : BitVec 32 := Scalar.remui v99_r0 c2_i32_111_r0
  let c0_i32_113_r0 : BitVec 32 := 0#32
  let c0_i32_114_r0 : BitVec 32 := 0#32
  ![v124_r0.toNat, 0, 0]
def k0_off18 (i : grid0.Coords) : Fin 2 → Nat :=
  let c256_i32_112_r0 : BitVec 32 := 256#32
  let c0_i32_92_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v111_r0 : BitVec 32 := Scalar.addi c0_i32_92_r0 v4
  let v125_r0 : BitVec 32 := Scalar.muli c256_i32_112_r0 v111_r0
  let c0_i32_115_r0 : BitVec 32 := 0#32
  ![v125_r0.toNat, 0]
def k0_off19 (i : grid0.Coords) : Fin 1 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v92_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_76_r0 : BitVec 1 := 1#1
  let v93_r0 : BitVec 1 := Scalar.xori v31_r0 true_76_r0
  let v94_r0 : BitVec 1 := Scalar.andi v92_r0 v93_r0
  let true_78_r0 : BitVec 1 := 1#1
  let v97_r0 : BitVec 1 := Scalar.andi v94_r0 true_78_r0
  let c0_i32_30_r0 : BitVec 32 := 0#32
  let c1_i32_79_r0 : BitVec 32 := 1#32
  let v98_r0 : BitVec 32 := Scalar.addi c0_i32_30_r0 c1_i32_79_r0
  let v99_r0 : BitVec 32 := Scalar.select v97_r0 v98_r0 c0_i32_30_r0
  let c2_i32_111_r0 : BitVec 32 := 2#32
  let v124_r0 : BitVec 32 := Scalar.remui v99_r0 c2_i32_111_r0
  ![v124_r0.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Take.lean ====
abbrev S8192x32 : Shape := ⟨2, ![8192, 32]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S8192x1, .i32⟩
  | .hbm, ⟨10, _⟩ => ⟨S1, .i32⟩
  | .hbm, ⟨11, _⟩ => ⟨S_, .i32⟩
  | .hbm, ⟨12, _⟩ => ⟨S8192x1, .i32⟩
  | .hbm, ⟨13, _⟩ => ⟨S8192x1, .i1⟩
  | .hbm, ⟨14, _⟩ => ⟨S1x1, .i32⟩
  | .hbm, ⟨15, _⟩ => ⟨S8192x1, .i32⟩
  | .hbm, ⟨16, _⟩ => ⟨S8192x1, .i1⟩
  | .hbm, ⟨17, _⟩ => ⟨S8192x1, .i1⟩
  | .hbm, ⟨18, _⟩ => ⟨S_, .i1⟩
  | .hbm, ⟨19, _⟩ => ⟨S8192, .i1⟩
  | .hbm, ⟨20, _⟩ => ⟨S8192x32, .f32⟩
  | .hbm, ⟨21, _⟩ => ⟨S8192x32, .i1⟩
  | .hbm, ⟨22, _⟩ => ⟨S_, .f32⟩
  | .hbm, ⟨23, _⟩ => ⟨S8192x32, .f32⟩
  | .hbm, ⟨24, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Sim.lean ====
abbrev S8192x32 : Shape := ⟨2, ![8192, 32]⟩
abbrev S8192x8192 : Shape := ⟨2, ![8192, 8192]⟩
abbrev S32x1x256 : Shape := ⟨3, ![32, 1, 256]⟩
abbrev S256x32 : Shape := ⟨2, ![256, 32]⟩
abbrev S256x8192 : Shape := ⟨2, ![256, 8192]⟩
abbrev S1x1x256 : Shape := ⟨3, ![1, 1, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x8192, .f32⟩
  | .hbm, ⟨3, _⟩ => ⟨S32x1x256, .i32⟩
  | .local _ .vmem, ⟨0, _⟩ => ⟨S256x32, .f32⟩
  | .local _ .vmem, ⟨1, _⟩ => ⟨S256x32, .f32⟩
  | .local _ .vmem, ⟨2, _⟩ => ⟨S8192x32, .f32⟩
  | .local _ .vmem, ⟨3, _⟩ => ⟨S256x8192, .f32⟩
  | .local _ .vmem, ⟨4, _⟩ => ⟨S256x8192, .f32⟩
  | .local _ .vmem, ⟨5, _⟩ => ⟨S1x1x256, .i32⟩
  | .local _ .vmem, ⟨6, _⟩ => ⟨S1x1x256, .i32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S8x1024x32 : Shape := ⟨3, ![8, 1024, 32]⟩
abbrev S1x8192x32 : Shape := ⟨3, ![1, 8192, 32]⟩
abbrev S8192x32 : Shape := ⟨2, ![8192, 32]⟩
abbrev S8192x8192 : Shape := ⟨2, ![8192, 8192]⟩
abbrev S32x1x256 : Shape := ⟨3, ![32, 1, 256]⟩
abbrev S256x32 : Shape := ⟨2, ![256, 32]⟩
abbrev S256x8192 : Shape := ⟨2, ![256, 8192]⟩
abbrev S1x1x256 : Shape := ⟨3, ![1, 1, 256]⟩
abbrev S256 : Shape := ⟨1, ![256]⟩
abbrev S256x1 : Shape := ⟨2, ![256, 1]⟩
abbrev S_ : Shape := ⟨0, ![]⟩
abbrev S8192x128 : Shape := ⟨2, ![8192, 128]⟩
abbrev S1x8192 : Shape := ⟨2, ![1, 8192]⟩
abbrev S2x1x256 : Shape := ⟨3, ![2, 1, 256]⟩
abbrev S2 : Shape := ⟨1, ![2]⟩
abbrev S2x256x128 : Shape := ⟨3, ![2, 256, 128]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S8x1024 : Shape := ⟨2, ![8, 1024]⟩
abbrev S8x1024x8192 : Shape := ⟨3, ![8, 1024, 8192]⟩

abbrev nBuf : Table → Nat
  | .hbm => 15
  | .local .tc .vmem => 7
  | .local .scVector .vmem => 2
  | _ => 0

abbrev bufTy : (tb : Table) → Fin (nBuf tb) → BufTy
  | .hbm, ⟨0, _⟩ => ⟨S8x1024x32, .f32⟩
  | .hbm, ⟨1, _⟩ => ⟨S1x8192x32, .f32⟩
  | .hbm, ⟨2, _⟩ => ⟨S8192x32, .f32⟩
  | .hbm, ⟨3, _⟩ => ⟨S8192x32, .f32⟩
  | .hbm, ⟨4, _⟩ => ⟨S8192x8192, .f32⟩
  | .hbm, ⟨5, _⟩ => ⟨S32x1x256, .i32⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S1x8192, .i32⟩
  | .hbm, ⟨10, _⟩ => ⟨S8192x128, .f32⟩
  | .hbm, ⟨11, _⟩ => ⟨S8192x32, .f32⟩
  | .hbm, ⟨12, _⟩ => ⟨S8x1024x32, .f32⟩
  | .hbm, ⟨13, _⟩ => ⟨S8x1024, .i32⟩
  | .hbm, ⟨14, _⟩ => ⟨S8x1024x8192, .f32⟩
  | .local .tc .vmem, ⟨0, _⟩ => ⟨S256x32, .f32⟩
  | .local .tc .vmem, ⟨1, _⟩ => ⟨S256x32, .f32⟩
  | .local .tc .vmem, ⟨2, _⟩ => ⟨S8192x32, .f32⟩
  | .local .tc .vmem, ⟨3, _⟩ => ⟨S256x8192, .f32⟩
  | .local .tc .vmem, ⟨4, _⟩ => ⟨S256x8192, .f32⟩
  | .local .tc .vmem, ⟨5, _⟩ => ⟨S1x1x256, .i32⟩
  | .local .tc .vmem, ⟨6, _⟩ => ⟨S1x1x256, .i32⟩
  | .local .scVector .vmem, ⟨0, _⟩ => ⟨S2x1x256, .i32⟩
  | .local .scVector .vmem, ⟨1, _⟩ => ⟨S2x256x128, .f32⟩
  | _, _ => ⟨S8x1024x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v4_scv : Ref sig .scVector := ⟨.hbm, 8, rfl⟩
abbrev main_v5_scv : Ref sig .scVector := ⟨.hbm, 9, rfl⟩
abbrev main_v6_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev sc_start : Sem sig := 0
abbrev sc_done : Sem sig := 1
abbrev sc_go : Sem sig := 2
abbrev sc_taskDone : Sem sig := 3

abbrev nD : Nat := 2
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 : Fin 3 → Nat :=
  let c0_i32_19_r0 : BitVec 32 := 0#32
  let c2_i32_r0 : BitVec 32 := 2#32
  let v20_r0 : BitVec 32 := Scalar.remui c0_i32_19_r0 c2_i32_r0
  let c0_i32_20_r0 : BitVec 32 := 0#32
  let c0_i32_21_r0 : BitVec 32 := 0#32
  ![v20_r0.toNat, 0, 0]
def k1_off2 (i : grid1.Coords) : Fin 2 → Nat :=
  let c0_i32_22_r0 : BitVec 32 := 0#32
  let c256_i32_r0 : BitVec 32 := 256#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c256_i32_r0 v7_r0
  ![0, v21_r0.toNat]
def k1_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k1_cond1 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v46_r0 : BitVec 1 := Scalar.cmpi .ne v33_r0 v41_r0
  let c0_i32_32_r0 : BitVec 32 := 0#32
  let c0_i32_54_r0 : BitVec 32 := 0#32
  let v47_r0 : BitVec 1 := Scalar.cmpi .sge c0_i32_32_r0 c0_i32_54_r0
  let true_55_r0 : BitVec 1 := 1#1
  let v48_r0 : BitVec 1 := Scalar.xori v47_r0 true_55_r0
  let v49_r0 : BitVec 1 := Scalar.andi v46_r0 v48_r0
  let true_56_r0 : BitVec 1 := 1#1
  let v50_r0 : BitVec 1 := Scalar.andi v49_r0 true_56_r0
  let v51_r0 : BitVec 32 := Scalar.extui v50_r0
  let c0_i32_57_r0 : BitVec 32 := 0#32
  let v52_r0 : BitVec 1 := Scalar.cmpi .ne v51_r0 c0_i32_57_r0
  v52_r0

def k1_off4 : Fin 3 → Nat :=
  let c0_i32_26_r0 : BitVec 32 := 0#32
  let c1_i32_27_r0 : BitVec 32 := 1#32
  let v30_r0 : BitVec 32 := Scalar.addi c0_i32_26_r0 c1_i32_27_r0
  let c2_i32_119_r0 : BitVec 32 := 2#32
  let v134_r0 : BitVec 32 := Scalar.remui v30_r0 c2_i32_119_r0
  let c0_i32_121_r0 : BitVec 32 := 0#32
  let c0_i32_122_r0 : BitVec 32 := 0#32
  ![v134_r0.toNat, 0, 0]
def k1_off5 (i : grid1.Coords) : Fin 2 → Nat :=
  let c0_i32_123_r0 : BitVec 32 := 0#32
  let c256_i32_120_r0 : BitVec 32 := 256#32
  let c0_i32_47_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_47_r0 v4
  let v135_r0 : BitVec 32 := Scalar.muli c256_i32_120_r0 v41_r0
  ![0, v135_r0.toNat]
def k1_off6 : Fin 1 → Nat :=
  let c0_i32_26_r0 : BitVec 32 := 0#32
  let c1_i32_27_r0 : BitVec 32 := 1#32
  let v30_r0 : BitVec 32 := Scalar.addi c0_i32_26_r0 c1_i32_27_r0
  let c2_i32_119_r0 : BitVec 32 := 2#32
  let v134_r0 : BitVec 32 := Scalar.remui v30_r0 c2_i32_119_r0
  ![v134_r0.toNat]
def k1_cond2 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v60_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let v61_r0 : BitVec 1 := Scalar.ori v60_r0 v31_r0
  let c0_i32_62_r0 : BitVec 32 := 0#32
  let v62_r0 : BitVec 1 := Scalar.cmpi .sge c0_i32_32_r0 c0_i32_62_r0
  let v63_r0 : BitVec 1 := Scalar.andi v61_r0 v62_r0
  let v64_r0 : BitVec 32 := Scalar.extui v63_r0
  let c0_i32_63_r0 : BitVec 32 := 0#32
  let v65_r0 : BitVec 1 := Scalar.cmpi .ne v64_r0 c0_i32_63_r0
  v65_r0

def k1_off7 : Fin 3 → Nat :=
  let c0_i32_28_r0 : BitVec 32 := 0#32
  let c2_i32_120_r0 : BitVec 32 := 2#32
  let v135_r0 : BitVec 32 := Scalar.remui c0_i32_28_r0 c2_i32_120_r0
  let c0_i32_121_r0 : BitVec 32 := 0#32
  let c0_i32_122_r0 : BitVec 32 := 0#32
  ![v135_r0.toNat, 0, 0]
def k1_off8 (i : grid1.Coords) : Fin 2 → Nat :=
  let c0_i32_123_r0 : BitVec 32 := 0#32
  let c256_i32_119_r0 : BitVec 32 := 256#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v134_r0 : BitVec 32 := Scalar.muli c256_i32_119_r0 v33_r0
  ![0, v134_r0.toNat]
def k1_off9 : Fin 1 → Nat :=
  let c0_i32_28_r0 : BitVec 32 := 0#32
  let c2_i32_120_r0 : BitVec 32 := 2#32
  let v135_r0 : BitVec 32 := Scalar.remui c0_i32_28_r0 c2_i32_120_r0
  ![v135_r0.toNat]
def k1_off10 : Fin 3 → Nat :=
  let c0_i32_29_r0 : BitVec 32 := 0#32
  let c2_i32_67_r0 : BitVec 32 := 2#32
  let v73_r0 : BitVec 32 := Scalar.remui c0_i32_29_r0 c2_i32_67_r0
  let c0_i32_119_r1 : BitVec 32 := 0#32
  let c0_i32_120_r1 : BitVec 32 := 0#32
  ![v73_r0.toNat, 0, 0]
def k1_cond5 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v79_r0 : BitVec 1 := Scalar.cmpi .ne v33_r0 v41_r0
  let c0_i32_32_r0 : BitVec 32 := 0#32
  let c0_i32_34_r0 : BitVec 32 := 0#32
  let v32_r0 : BitVec 1 := Scalar.cmpi .eq c0_i32_32_r0 c0_i32_34_r0
  let v80_r0 : BitVec 1 := Scalar.ori v79_r0 v32_r0
  let v81_r0 : BitVec 32 := Scalar.extui v80_r0
  let c0_i32_70_r0 : BitVec 32 := 0#32
  let v82_r0 : BitVec 1 := Scalar.cmpi .ne v81_r0 c0_i32_70_r0
  v82_r0

def k1_off11 : Fin 3 → Nat :=
  let c0_i32_29_r0 : BitVec 32 := 0#32
  let c2_i32_119_r0 : BitVec 32 := 2#32
  let v134_r0 : BitVec 32 := Scalar.remui c0_i32_29_r0 c2_i32_119_r0
  let c0_i32_121_r0 : BitVec 32 := 0#32
  let c0_i32_122_r0 : BitVec 32 := 0#32
  ![v134_r0.toNat, 0, 0]
def k1_off12 (i : grid1.Coords) : Fin 2 → Nat :=
  let c256_i32_120_r0 : BitVec 32 := 256#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v135_r0 : BitVec 32 := Scalar.muli c256_i32_120_r0 v33_r0
  let c0_i32_123_r0 : BitVec 32 := 0#32
  ![v135_r0.toNat, 0]
def k1_off13 : Fin 1 → Nat :=
  let c0_i32_29_r0 : BitVec 32 := 0#32
  let c2_i32_119_r0 : BitVec 32 := 2#32
  let v134_r0 : BitVec 32 := Scalar.remui c0_i32_29_r0 c2_i32_119_r0
  ![v134_r0.toNat]
def k1_cond7 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v92_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_76_r0 : BitVec 1 := 1#1
  let v93_r0 : BitVec 1 := Scalar.xori v31_r0 true_76_r0
  let v94_r0 : BitVec 1 := Scalar.andi v92_r0 v93_r0
  let v95_r0 : BitVec 32 := Scalar.extui v94_r0
  let c0_i32_77_r0 : BitVec 32 := 0#32
  let v96_r0 : BitVec 1 := Scalar.cmpi .ne v95_r0 c0_i32_77_r0
  v96_r0

def k1_off14 : Fin 3 → Nat :=
  let c0_i32_30_r0 : BitVec 32 := 0#32
  let c2_i32_119_r0 : BitVec 32 := 2#32
  let v134_r0 : BitVec 32 := Scalar.remui c0_i32_30_r0 c2_i32_119_r0
  let c0_i32_121_r0 : BitVec 32 := 0#32
  let c0_i32_122_r0 : BitVec 32 := 0#32
  ![v134_r0.toNat, 0, 0]
def k1_off15 (i : grid1.Coords) : Fin 2 → Nat :=
  let c256_i32_120_r0 : BitVec 32 := 256#32
  let c0_i32_41_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_41_r0 v4
  let v135_r0 : BitVec 32 := Scalar.muli c256_i32_120_r0 v37_r0
  let c0_i32_123_r0 : BitVec 32 := 0#32
  ![v135_r0.toNat, 0]
def k1_off16 : Fin 1 → Nat :=
  let c0_i32_30_r0 : BitVec 32 := 0#32
  let c2_i32_119_r0 : BitVec 32 := 2#32
  let v134_r0 : BitVec 32 := Scalar.remui c0_i32_30_r0 c2_i32_119_r0
  ![v134_r0.toNat]
def k1_off17 (i : grid1.Coords) : Fin 3 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v92_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_76_r0 : BitVec 1 := 1#1
  let v93_r0 : BitVec 1 := Scalar.xori v31_r0 true_76_r0
  let v94_r0 : BitVec 1 := Scalar.andi v92_r0 v93_r0
  let true_78_r0 : BitVec 1 := 1#1
  let v97_r0 : BitVec 1 := Scalar.andi v94_r0 true_78_r0
  let c0_i32_30_r0 : BitVec 32 := 0#32
  let c1_i32_79_r0 : BitVec 32 := 1#32
  let v98_r0 : BitVec 32 := Scalar.addi c0_i32_30_r0 c1_i32_79_r0
  let v99_r0 : BitVec 32 := Scalar.select v97_r0 v98_r0 c0_i32_30_r0
  let c2_i32_111_r0 : BitVec 32 := 2#32
  let v124_r0 : BitVec 32 := Scalar.remui v99_r0 c2_i32_111_r0
  let c0_i32_113_r0 : BitVec 32 := 0#32
  let c0_i32_114_r0 : BitVec 32 := 0#32
  ![v124_r0.toNat, 0, 0]
def k1_off18 (i : grid1.Coords) : Fin 2 → Nat :=
  let c256_i32_112_r0 : BitVec 32 := 256#32
  let c0_i32_92_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v111_r0 : BitVec 32 := Scalar.addi c0_i32_92_r0 v4
  let v125_r0 : BitVec 32 := Scalar.muli c256_i32_112_r0 v111_r0
  let c0_i32_115_r0 : BitVec 32 := 0#32
  ![v125_r0.toNat, 0]
def k1_off19 (i : grid1.Coords) : Fin 1 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v92_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_76_r0 : BitVec 1 := 1#1
  let v93_r0 : BitVec 1 := Scalar.xori v31_r0 true_76_r0
  let v94_r0 : BitVec 1 := Scalar.andi v92_r0 v93_r0
  let true_78_r0 : BitVec 1 := 1#1
  let v97_r0 : BitVec 1 := Scalar.andi v94_r0 true_78_r0
  let c0_i32_30_r0 : BitVec 32 := 0#32
  let c1_i32_79_r0 : BitVec 32 := 1#32
  let v98_r0 : BitVec 32 := Scalar.addi c0_i32_30_r0 c1_i32_79_r0
  let v99_r0 : BitVec 32 := Scalar.select v97_r0 v98_r0 c0_i32_30_r0
  let c2_i32_111_r0 : BitVec 32 := 2#32
  let v124_r0 : BitVec 32 := Scalar.remui v99_r0 c2_i32_111_r0
  ![v124_r0.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x32 : Shape := ⟨3, ![16, 1024, 32]⟩
abbrev S1x8192x32 : Shape := ⟨3, ![1, 8192, 32]⟩
abbrev S1x16x1024x32 : Shape := ⟨4, ![1, 16, 1024, 32]⟩
abbrev S1x16384x32 : Shape := ⟨3, ![1, 16384, 32]⟩
abbrev S_ : Shape := ⟨0, ![]⟩
abbrev S1x16384 : Shape := ⟨2, ![1, 16384]⟩
abbrev S1x16384x1 : Shape := ⟨3, ![1, 16384, 1]⟩
abbrev S1x16384x8192 : Shape := ⟨3, ![1, 16384, 8192]⟩
abbrev S1x16x1024 : Shape := ⟨3, ![1, 16, 1024]⟩
abbrev S1x16x1024x1 : Shape := ⟨4, ![1, 16, 1024, 1]⟩
abbrev S1 : Shape := ⟨1, ![1]⟩
abbrev S1x1x1x1 : Shape := ⟨4, ![1, 1, 1, 1]⟩
abbrev S1x16x1024x8192 : Shape := ⟨4, ![1, 16, 1024, 8192]⟩
abbrev S16x1024 : Shape := ⟨2, ![16, 1024]⟩
abbrev S16x1024x8192 : Shape := ⟨3, ![16, 1024, 8192]⟩

abbrev nBuf : Space → Nat
  | .hbm => 49
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S1x8192x32, .f32⟩
  | .hbm, ⟨2, _⟩ => ⟨S1x16x1024x32, .f32⟩
  | .hbm, ⟨3, _⟩ => ⟨S1x16384x32, .f32⟩
  | .hbm, ⟨4, _⟩ => ⟨S1x16384x32, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S1x16384x1, .f32⟩
  | .hbm, ⟨9, _⟩ => ⟨S_, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x32, .f32⟩
  | .hbm, ⟨14, _⟩ => ⟨S1x16384x32, .f32⟩
  | .hbm, ⟨15, _⟩ => ⟨S1x16384x8192, .f32⟩
  | .hbm, ⟨16, _⟩ => ⟨S1x16384x8192, .i32⟩
  | .hbm, ⟨17, _⟩ => ⟨S_, .f32⟩
  | .hbm, ⟨18, _⟩ => ⟨S_, .i32⟩
  | .hbm, ⟨19, _⟩ => ⟨S1x16384, .f32⟩
  | .hbm, ⟨20, _⟩ => ⟨S1x16384, .i32⟩
  | .hbm, ⟨21, _⟩ => ⟨S1x16x1024, .i32⟩
  | .hbm, ⟨22, _⟩ => ⟨S_, .i32⟩
  | .hbm, ⟨23, _⟩ => ⟨S1x16x1024, .i32⟩
  | .hbm, ⟨24, _⟩ => ⟨S1x16x1024, .i1⟩
  | .hbm, ⟨25, _⟩ => ⟨S_, .i32⟩
  | .hbm, ⟨26, _⟩ => ⟨S1x16x1024, .i32⟩
  | .hbm, ⟨27, _⟩ => ⟨S1x16x1024, .i32⟩
  | .hbm, ⟨28, _⟩ => ⟨S1x16x1024, .i32⟩
  | .hbm, ⟨29, _⟩ => ⟨S1x16x1024x1, .i32⟩
  | .hbm, ⟨30, _⟩ => ⟨S1, .i32⟩
  | .hbm, ⟨31, _⟩ => ⟨S_, .i32⟩
  | .hbm, ⟨32, _⟩ => ⟨S1x16x1024x1, .i32⟩
  | .hbm, ⟨33, _⟩ => ⟨S1x16x1024x1, .i1⟩
  | .hbm, ⟨34, _⟩ => ⟨S1x1x1x1, .i32⟩
  | .hbm, ⟨35, _⟩ => ⟨S1x16x1024x1, .i32⟩
  | .hbm, ⟨36, _⟩ => ⟨S1x16x1024x1, .i1⟩
  | .hbm, ⟨37, _⟩ => ⟨S1x16x1024x1, .i1⟩
  | .hbm, ⟨38, _⟩ => ⟨S_, .i1⟩
  | .hbm, ⟨39, _⟩ => ⟨S1x16x1024, .i1⟩
  | .hbm, ⟨40, _⟩ => ⟨S1x16x1024x32, .f32⟩
  | .hbm, ⟨41, _⟩ => ⟨S1x16x1024x32, .i1⟩
  | .hbm, ⟨42, _⟩ => ⟨S_, .f32⟩
  | .hbm, ⟨43, _⟩ => ⟨S1x16x1024x32, .f32⟩
  | .hbm, ⟨44, _⟩ => ⟨S1x16x1024x32, .f32⟩
  | .hbm, ⟨45, _⟩ => ⟨S1x16x1024x8192, .f32⟩
  | .hbm, ⟨46, _⟩ => ⟨S16x1024x32, .f32⟩
  | .hbm, ⟨47, _⟩ => ⟨S16x1024, .i32⟩
  | .hbm, ⟨48, _⟩ => ⟨S16x1024x8192, .f32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call2_v0 : Ref sig .tc := ⟨.hbm, 16, rfl⟩
abbrev main_call2_cst : Ref sig .tc := ⟨.hbm, 17, rfl⟩
abbrev main_call2_c : Ref sig .tc := ⟨.hbm, 18, rfl⟩
abbrev main_call2_v1_0 : Ref sig .tc := ⟨.hbm, 19, rfl⟩
abbrev main_v7 : Ref sig .tc := ⟨.hbm, 20, rfl⟩
abbrev main_v8 : Ref sig .tc := ⟨.hbm, 21, rfl⟩
abbrev main_call3_c : Ref sig .tc := ⟨.hbm, 22, rfl⟩
abbrev main_call3_v0 : Ref sig .tc := ⟨.hbm, 23, rfl⟩
abbrev main_call3_v1 : Ref sig .tc := ⟨.hbm, 24, rfl⟩
abbrev main_call3_c_0 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_call3_v5 : Ref sig .tc := ⟨.hbm, 29, rfl⟩
abbrev main_call3_c_1 : Ref sig .tc := ⟨.hbm, 30, rfl⟩
abbrev main_call3_c_2 : Ref sig .tc := ⟨.hbm, 31, rfl⟩
abbrev main_call3_v6 : Ref sig .tc := ⟨.hbm, 32, rfl⟩
abbrev main_call3_v7 : Ref sig .tc := ⟨.hbm, 33, rfl⟩
abbrev main_call3_v8 : Ref sig .tc := ⟨.hbm, 34, rfl⟩
abbrev main_call3_v9 : Ref sig .tc := ⟨.hbm, 35, rfl⟩
abbrev main_call3_v10 : Ref sig .tc := ⟨.hbm, 36, rfl⟩
abbrev main_call3_v11 : Ref sig .tc := ⟨.hbm, 37, rfl⟩
abbrev main_call3_c_3 : Ref sig .tc := ⟨.hbm, 38, rfl⟩
abbrev main_call3_v12 : Ref sig .tc := ⟨.hbm, 39, rfl⟩
abbrev main_call3_v13 : Ref sig .tc := ⟨.hbm, 40, rfl⟩
abbrev main_call3_v14 : Ref sig .tc := ⟨.hbm, 41, rfl⟩
abbrev main_call3_cst : Ref sig .tc := ⟨.hbm, 42, rfl⟩
abbrev main_call3_v15 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩

abbrev nD : Nat := 1
abbrev τ : Topo := Topo.v7x

variable {F : FTy → Type} [FloatOps F]
-- ==== Proof.GatherTile.lean ====
/-
  The gather call alone: one tile's task. Tile `(c, i)` fetches 256 row numbers, gathers those rows of the table into
  its slot and writes them out to its 256 rows of the result. Stated for any contents of the table and of the row
  numbers, over any float values.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays and their pieces -/

abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

local notation "tV" => (Memref.whole Cert.GatherIdeal.main_v0_scv : Memref Cert.GatherIdeal.sig Kind.scVector Space.hbm Cert.GatherIdeal.S8192x128 EltTy.f32)
local notation "iV" => (Memref.whole Cert.GatherIdeal.main_v1_scv : Memref Cert.GatherIdeal.sig Kind.scVector Space.hbm Cert.GatherIdeal.S1x8192 EltTy.i32)
local notation "oV" => (Memref.whole Cert.GatherIdeal.main_v2_scv : Memref Cert.GatherIdeal.sig Kind.scVector Space.hbm Cert.GatherIdeal.S8192x128 EltTy.f32)
local notation "aV" => (Memref.whole Cert.GatherIdeal.cc0_scoped0 : Memref Cert.GatherIdeal.sig Kind.scVector Space.vmem Cert.GatherIdeal.S2x1x256 EltTy.i32)
local notation "bV" => (Memref.whole Cert.GatherIdeal.cc0_scoped2 : Memref Cert.GatherIdeal.sig Kind.scVector Space.vmem Cert.GatherIdeal.S2x256x128 EltTy.f32)

theorem idiv : 32 ∣ S1x8192.size 1 := ⟨256, rfl⟩
theorem odiv : 32 ∣ S8192x128.size 0 := ⟨256, rfl⟩

/-- Block `k` of the row numbers and of the result. -/
abbrev iBlk (k : Fin 32) : Finset S1x8192.Idx := (Rect.part (s := S1x8192) (a₀ := 1) idiv k).set
abbrev oBlk (k : Fin 32) : Finset S8192x128.Idx := (Rect.part (s := S8192x128) (a₀ := 0) odiv k).set
/-- Block `k`'s share of the table. -/
abbrev tq (k : Fin 32) : PosShare TreeShare := pieceOf fullShare 32 (by decide) k

/-- The block tile `(c, i)` does. -/
abbrev blk (c : Fin 2) (i : Fin 16) : Fin 32 := ⟨i.val + 16 * c.val, by omega⟩

/-- Row number `r`, as an index of the array of all of them. -/
abbrev ixI (r : Fin 8192) : S1x8192.Idx := fun b => match b with | 0 => (0 : Fin 1) | 1 => r

/-- What the call leaves: row `r` of the result is the table's row at the row number `r` names. -/
def gath {e : EltTy} (TB : S8192x128.Idx → Elt F e) (IX : S1x8192.Idx → BitVec 32) : S8192x128.Idx → Elt F e := fun x =>
  TB fun a => match a with
    | 0 => if h : (IX (ixI (x 0))).toNat < 8192 then ⟨(IX (ixI (x 0))).toNat, h⟩ else x 0
    | 1 => x 1

theorem dite_val (n : Nat) (hn : n < 8192) (e : Fin 8192) : (if h : n < 8192 then (⟨n, h⟩ : Fin 8192) else e).val = n := by
  rw [dif_pos hn]

variable [FloatOps F]

section Tile

variable (TB : (d : Dev nD) → Buf (Elt F) (tLoc d)) (IX : (d : Dev nD) → Buf (Elt F) (iLoc d)) (O0 : (d : Dev nD) → Buf (Elt F) (oLoc d))

/-- Every row number names a row of the table. -/
def InRows : Prop := ∀ (d : Dev nD) (j : S1x8192.Idx), (IX d j : BitVec 32).toNat < 8192

abbrev tPts (d : Dev nD) (k : Fin 32) : sProp 𝕄 := tLoc d ↦{tq k} TB d
abbrev iPts (d : Dev nD) (k : Fin 32) : sProp 𝕄 := iLoc d ↦[iBlk k]{fullShare} IX d
abbrev oPts (d : Dev nD) (k : Fin 32) (f : Buf (Elt F) (oLoc d)) : sProp 𝕄 := oLoc d ↦[oBlk k]{fullShare} f

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev kL (L : grid0.Coords) : Fin 32 := ⟨(L 1).val + 16 * (L 0).val, by
  have h0 : (L 0).val < 2 := (L 0).isLt
  have h1 : (L 1).val < 16 := (L 1).isLt
  omega⟩

omit [FloatOps F] in
theorem cond1 : ∀ L : grid0.Coords, ¬ k0_cond1 L = 1#1 := by decide +kernel
omit [FloatOps F] in
theorem cond2 : ∀ L : grid0.Coords, k0_cond2 L = 1#1 := by decide +kernel
omit [FloatOps F] in
theorem cond5 : ∀ L : grid0.Coords, k0_cond5 L = 1#1 := by decide +kernel
omit [FloatOps F] in
theorem cond7 : ∀ L : grid0.Coords, ¬ k0_cond7 L = 1#1 := by decide +kernel

/-- The block of row numbers and the block of the result, as the task addresses them. -/
abbrev iBlkK (L : grid0.Coords) : Memref sig .scVector .hbm S1x256 .i32 :=
  (iV).slice (Rect.unit (s := S1x8192) (k0_off2 L) S1x256.size (k0_off2_inb L)) (fun _ => rfl)
abbrev oBlkK (L : grid0.Coords) : Memref sig .scVector .hbm S256x128 .f32 :=
  (oV).slice (Rect.unit (s := S8192x128) (k0_off12 L) S256x128.size (k0_off12_inb L (cond5 L))) (fun _ => rfl)
/-- The index slot the task uses, and the list it holds. -/
abbrev aSlot : Memref sig .scVector .vmem S1x256 .i32 :=
  ((aV).slice (Rect.unit (s := S2x1x256) k0_off1 S1x1x256.size k0_off1_inb) (fun _ => rfl)).squeeze S1x256 squeezes_S1x1x256_S1x256
abbrev aList : Memref sig .scVector .vmem S256 .i32 :=
  (aSlot.slice (Rect.unit (s := S1x256) ![0, 0] S1x256.size inb_S1x256_S1x256_0_0) (fun _ => rfl)).squeeze S256 squeezes_S1x256_S256

/-- The slot the gathered rows land in. -/
abbrev bSlot : Memref sig .scVector .vmem S256x128 .f32 :=
  ((bV).slice (Rect.unit (s := S2x256x128) k0_off10 S1x256x128.size k0_off10_inb) (fun _ => rfl)).squeeze S256x128 squeezes_S1x256x128_S256x128

omit [FloatOps F] in
theorem set_iBlkK : (iBlkK L).view.set = iBlk (kL L) := by
  show (((View.whole (main_v1_scv : Ref sig .scVector)).slice _).set = _)
  rw [View.set_slice]
  refine Finset.map_refl.trans (congrArg (fun r : Rect _ => r.set) ?_)
  unfold Rect.part Rect.block
  congr 1 <;> funext a
  · rw [k0_off2_eq]
    match a with
    | 0 => simp [Shape.partIx, Shape.partSize]
    | 1 => simp [Shape.partIx, Shape.partSize]; omega
  · match a with
    | 0 => simp [Shape.partSize]
    | 1 => simp [Shape.partSize]
omit [FloatOps F] in
theorem set_oBlkK : (oBlkK L).view.set = oBlk (kL L) := by
  show (((View.whole (main_v2_scv : Ref sig .scVector)).slice _).set = _)
  rw [View.set_slice]
  refine Finset.map_refl.trans (congrArg (fun r : Rect _ => r.set) ?_)
  unfold Rect.part Rect.block
  congr 1 <;> funext a
  · rw [k0_off12_eq]
    match a with
    | 0 => simp [Shape.partIx, Shape.partSize]; omega
    | 1 => simp [Shape.partIx, Shape.partSize]
  · match a with
    | 0 => simp [Shape.partSize]
    | 1 => simp [Shape.partSize]

omit [FloatOps F] in
theorem pts_iBlkK (f : Buf (Elt F) (iLoc d)) :
    ((iBlkK L).view.loc (V d (cV L) (jV L)) ↦[(iBlkK L).view.set]{fullShare} f : sProp 𝕄) = iLoc d ↦[iBlk (kL L)]{fullShare} f := by
  rw [set_iBlkK]
omit [FloatOps F] in
theorem pts_oBlkK (f : Buf (Elt F) (oLoc d)) :
    ((oBlkK L).view.loc (V d (cV L) (jV L)) ↦[(oBlkK L).view.set]{fullShare} f : sProp 𝕄) = oLoc d ↦[oBlk (kL L)]{fullShare} f := by
  rw [set_oBlkK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_aV (f : Buf (Elt F) ((V d (cV L) (jV L)).loc cc0_scoped0)) :
    ((aV).view.loc (V d (cV L) (jV L)) ↦{fullShare} f : sProp 𝕄) = (V d (cV L) (jV L)).loc cc0_scoped0 ↦{fullShare} f := rfl
omit [FloatOps F] in
theorem pts_bV (f : Buf (Elt F) ((V d (cV L) (jV L)).loc cc0_scoped2)) :
    ((bV).view.loc (V d (cV L) (jV L)) ↦{fullShare} f : sProp 𝕄) = (V d (cV L) (jV L)).loc cc0_scoped2 ↦{fullShare} f := rfl

/-! ## The values -/

/-- A place in the list as an index of a slot. -/
abbrev ixS (j : Fin 256) : S1x256.Idx := fun b => match b with | 0 => (0 : Fin 1) | 1 => j

omit [FloatOps F] in
/-- The list read from the slot, once words `w` have landed there, is `w`. -/
theorem list_read (f : Buf (Elt F) ((V d (cV L) (jV L)).loc cc0_scoped0)) (w : S1x256.Idx → Elt F .i32) (x : S256.Idx) :
    (aList).view.read (Elt F) (View.write (Elt F) (aSlot).view f w Finset.univ) x = w (ixS (x 0)) := by
  have hr : ∀ h : S256.numel = S1x256.numel, Shape.reshapeEquiv h x = ixS (x 0) := fun h => by
    refine Shape.reshapeEquiv_eq_of_rowMajor h ?_
    refine (Shape.rowMajor_val_two (d := ![1, 256]) (ixS (x 0))).trans ?_
    refine Eq.trans ?_ (Shape.rowMajor_val_one (d := ![256]) x).symm
    simp [ixS]
  have he : (aList).view.emb x = (aSlot).view.emb (ixS (x 0)) := by
    show (aSlot).view.emb ((Rect.unit (s := S1x256) ![0, 0] S1x256.size inb_S1x256_S1x256_0_0).emb (Shape.reshapeEquiv _ x)) = _
    rw [hr]
    refine congrArg _ (funext fun a => Fin.ext ?_)
    match a with
    | 0 => rfl
    | 1 => show 0 + 1 * _ = _; omega
  rw [View.read_apply, he]
  exact (View.read_apply _ _).symm.trans (View.read_write_of_mem (v := (aSlot).view) (Val := Elt F) f w (x := ixS (x 0)) (Finset.mem_univ _))

/-- Row `j` of block `kL L`. -/
abbrev rowAt (L : grid0.Coords) (j : Fin 256) : Fin 8192 := ⟨256 * (kL L).val + j.val, by have := (kL L).isLt; omega⟩

omit [FloatOps F] in
theorem fetched (g : Buf (Elt F) (iLoc d)) (j : Fin 256) : (iBlkK L).view.read (Elt F) g (ixS j) = g (ixI (rowAt L j)) := by
  refine (View.read_apply _ _).trans ((cast_eq _ _).trans (congrArg g (funext fun a => Fin.ext ?_)))
  show ((Rect.unit (s := S1x8192) (k0_off2 L) S1x256.size (k0_off2_inb L)).emb (ixS j) a).val = _
  match a with
  | 0 => show k0_off2 L 0 + 1 * 0 = 0; rw [k0_off2_eq]; rfl
  | 1 =>
    show k0_off2 L 1 + 1 * j.val = 256 * ((L 1).val + 16 * (L 0).val) + j.val
    rw [k0_off2_eq]
    show 256 * (L 1).val + 4096 * (L 0).val + 1 * j.val = _
    omega

omit [FloatOps F] in
theorem list_fetched (f : Buf (Elt F) ((V d (cV L) (jV L)).loc cc0_scoped0)) (g : Buf (Elt F) (iLoc d)) (x : S256.Idx) :
    (aList).view.read (Elt F) (View.write (Elt F) (aSlot).view f ((iBlkK L).view.read (Elt F) g) Finset.univ) x = g (ixI (rowAt L (x 0))) :=
  (list_read d L f _ x).trans (fetched d L g (x 0))

/-- The table as the gather reads it, whole. -/
abbrev tAll : Memref sig .scVector .hbm S8192x128 .f32 := (tV).slice (Rect.unit (s := S8192x128) ![0, 0] S8192x128.size inb_S8192x128_S8192x128_0_0) (fun _ => rfl)

omit [FloatOps F] in
theorem tAll_read (g : Buf (Elt F) (tLoc d)) : (tAll).view.read (Elt F) g = g := by
  funext x
  refine (View.read_apply _ _).trans ((cast_eq _ _).trans (congrArg g (funext fun a => Fin.ext ?_)))
  show (![0, 0] : Fin 2 → Nat) a + 1 * (x a).val = (x a).val
  match a with
  | 0 => show 0 + 1 * _ = _; omega
  | 1 => show 0 + 1 * _ = _; omega

/-- What the gather brings: row `j` of the slot is the table's row at row number `j` of the block. -/
theorem gathered (g : Buf (Elt F) (tLoc d)) (g' : S8192x128.Idx → Elt F .f32) (hg : g' = g) (w : S256.Idx → Elt F .i32) (hw : ∀ x, w x = IX d (ixI (rowAt L (x 0))))
    (hn : S256.numel = S256x128.size gathers_S8192x128_S256x128.axis')
    (hin : ∀ x, (w x : BitVec 32).toNat < S8192x128.size gathers_S8192x128_S256x128.axis) (y : S256x128.Idx) :
    SparseCore.gatherPayload (F := F) (e := .f32) gathers_S8192x128_S256x128 g' (SparseCore.rows w hn hin) y
      = gath (F := F) (e := .f32) g (IX d) ((oBlkK L).view.emb y) := by
  subst hg
  unfold SparseCore.gatherPayload gath
  refine congrArg g' (funext fun a => Fin.ext ?_)
  have hy : (oBlkK L).view.emb y 0 = rowAt L (y 0) := Fin.ext (by
    show k0_off12 L 0 + 1 * (y 0).val = 256 * ((L 1).val + 16 * (L 0).val) + (y 0).val
    rw [k0_off12_eq]
    show 256 * (L 1).val + 4096 * (L 0).val + 1 * (y 0).val = _
    omega)
  match a with
  | 0 =>
    refine (congrArg Fin.val (Shape.Gathers.idx_axis gathers_S8192x128_S256x128 _ y)).trans ?_
    have hs : (S256.rowMajor.symm ((y (gathers_S8192x128_S256x128.axis')).cast hn.symm)) 0 = y 0 := by
      have e := Shape.rowMajor_val_one (d := ![256]) (S256.rowMajor.symm ((y (gathers_S8192x128_S256x128.axis')).cast hn.symm))
      refine Fin.ext (e.symm.trans ?_)
      exact congrArg Fin.val (S256.rowMajor.apply_symm_apply _)
    show (w _ : BitVec 32).toNat = _
    have hlt := hin (S256.rowMajor.symm ((y (gathers_S8192x128_S256x128.axis')).cast hn.symm))
    rw [hw, hs] at hlt ⊢
    show _ = Fin.val (dite _ _ _)
    rw [hy]
    exact (dite_val _ hlt _).symm
  | 1 =>
    refine (Shape.Gathers.idx_of_ne gathers_S8192x128_S256x128 _ y 1 (by decide)).trans ?_
    show (y 1).val = k0_off12 L 1 + 1 * (y 1).val
    rw [k0_off12_eq]
    show _ = 0 + 1 * (y 1).val
    omega

omit [FloatOps F] in
theorem landed (f : Buf (Elt F) (oLoc d)) (p : S256x128.Idx → Elt F .f32) (y : S256x128.Idx) :
    (oBlkK L).view.writes (Elt F) f [⟨Rect.whole S256x128, p⟩] ((oBlkK L).view.emb y) = p y := by
  have hy : (Rect.whole S256x128).emb y = y := by simp
  have h := View.read_writes_cons_emb (v := (oBlkK L).view) (f := f) (Rect.whole S256x128) p [] y
  rw [hy] at h
  exact ((View.read_apply (v := (oBlkK L).view) _ _).trans (cast_eq _ _)).symm.trans h

theorem fromSlot (f : Buf (Elt F) ((V d (cV L) (jV L)).loc cc0_scoped2)) (p : S256x128.Idx → Elt F .f32) (y : S256x128.Idx) {r : Elt F .f32} (h : p y = r) :
    (bSlot).view.read (Elt F) (View.write (Elt F) (bSlot).view f p Finset.univ) y = r :=
  (congrFun (View.read_write_univ (v := (bSlot).view) (Val := Elt F) f p) y).trans h

/-! ## The task's semaphores and scratch -/

abbrev cA (d : Dev nD) (c : Fin τ.nSC) (i : Fin τ.nSub) : GSem nD τ sig := (V d c i, .dma ⟨0, by decide⟩)
abbrev cB (d : Dev nD) (c : Fin τ.nSC) (i : Fin τ.nSub) : GSem nD τ sig := (V d c i, .dma ⟨2, by decide⟩)
abbrev cC (d : Dev nD) (c : Fin τ.nSC) (i : Fin τ.nSub) : GSem nD τ sig := (V d c i, .dma ⟨4, by decide⟩)

omit [FloatOps F] in
theorem last_sem : ∀ L : grid0.Coords,
    ((cc0_scoped3.slice (Rect.unit (s := S2) (k0_off19 L) S1.size (k0_off19_inb L))).squeeze S_ squeezes_S1_S_).sem = ⟨2, by decide⟩ := by decide +kernel

omit [FloatOps F] in
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma _ : SemLoc sig).isScoped .scVector = true; decide⟩),
    SparseCore.bigSep_erase' (Finset.mem_erase.mpr ⟨by simp [cA, cB], (mem_ownCells (g := cB d (cV L) (jV L))).mpr ⟨rfl, by
      show (SemLoc.dma _ : SemLoc sig).isScoped .scVector = true; decide⟩⟩),
    SparseCore.bigSep_erase' (Finset.mem_erase.mpr ⟨by simp [cB, cC], Finset.mem_erase.mpr ⟨by simp [cA, cC],
      (mem_ownCells (g := cC d (cV L) (jV L))).mpr ⟨rfl, by show (SemLoc.dma _ : SemLoc sig).isScoped .scVector = true; decide⟩⟩⟩)]

omit [FloatOps F] in
theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The task -/

set_option maxHeartbeats 4000000 in
/-- The task on tile `(L 0, L 1)` of device `d`: the fetch of the row numbers and its wait, the gather and its wait,
    the write-out and its wait; the block of the result ends at the gathered rows. -/
theorem tile_body (hF : (K (F := F)).Facts) (hpre : InRows IX) (O : CellTallies nD τ sig (HIx 1)) (W : Waits sig (HIx 1)) (hO : ∀ g, O g none = 0) :
    iprop(levAts (K (F := F)).L (K (F := F)).lev ∗ emp
        ∗ (tPts TB d (kL L) ∗ iPts IX d (kL L) ∗ oPts d (kL L) (O0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _)
            aV (Memref.isWhole_whole _) cc0_scoped1 bV (Memref.isWhole_whole _) cc0_scoped3 cc0_scoped4)
          fun _ => iprop((tPts TB d (kL L) ∗ iPts IX d (kL L) ∗ oPts d (kL L) (gath (F := F) (e := .f32) (TB d) (IX d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hin : ∀ (f : Buf (Elt F) ((V d (cV L) (jV L)).loc cc0_scoped0)) x,
      ((aList).view.read (Elt F) (View.write (Elt F) (aSlot).view f ((iBlkK L).view.read (Elt F) (IX d)) Finset.univ) x : BitVec 32).toNat
        < S8192x128.size gathers_S8192x128_S256x128.axis := fun f x => by
    rw [list_fetched d L f (IX d) x]; exact hpre d _
  simp only [cc0_gather_kernel_eq_skeleton]; unfold cc0_gather_kernel_skel
  have c1 := cond1 L
  have c2 := cond2 L
  have c5 := cond5 L
  have c7 := cond7 L
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fa, Ha⟩, ⟨%fb, Hb⟩, Hbufs⟩, ⟨HsA, HsB, HsC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Ht' := (Entails.of_eq (pts_tV (F := F) d L _ _).symm) $$ Ht
  ihave Ha' := (Entails.of_eq (pts_aV (F := F) d L _).symm) $$ Ha
  ihave Hb' := (Entails.of_eq (pts_bV (F := F) d L _).symm) $$ Hb
  sl_exec
  rw [last_sem L]
  sl_exec
  sl_step
  isplitl [Hi' Ht' Ho']
  · isplitl [Ht']; · iexact Ht'
    isplitl [Hi']; · iapply (Entails.of_eq (pts_iBlkK (F := F) d L _)); iexact Hi'
    iapply (Entails.of_eq (pts_oBlkK (F := F) d L _))
    ihave Ho2 := (Entails.of_eq (pointsTo_congr (g := gath (F := F) (e := .f32) (TB d) (IX d)) (fun i hi => by
      obtain ⟨y, -, rfl⟩ := Finset.mem_map.mp hi
      exact (landed d L (O0 d) _ y).trans (fromSlot d L fb _ y (by
        unfold tile_body.sl.gather1
        exact gathered IX d L (TB d) _ (tAll_read d (TB d)) _ (list_fetched d L fa (IX d)) _ _ y))))) $$ Ho'
    iexact Ho2
  isplitl [Ha' Hb' Hbufs]
  · isplitl [Ha']; · iexists _; iexact Ha'
    isplitl [Hb']; · iexists _; iexact Hb'
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.GatherTile

end
-- ==== Proof.GatherLaunch.lean ====
/-
  The gather call alone: its launch, and the whole program around it. The 32 tiles' pieces of the three arrays are
  the arrays, cut; the host operations before and after the call are a fold over the device's buffers.
-/
module

public import proofs.«01_k».proof.Proof.GatherTile
public import Idealize.ShloMosaic.Lib.Pipeline.Frame

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held after seq launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.GatherIdeal.main_v0_scv : Memref Cert.GatherIdeal.sig Kind.scVector Space.hbm Cert.GatherIdeal.S8192x128 EltTy.f32)
local notation "iV" => (Memref.whole Cert.GatherIdeal.main_v1_scv : Memref Cert.GatherIdeal.sig Kind.scVector Space.hbm Cert.GatherIdeal.S1x8192 EltTy.i32)
local notation "oV" => (Memref.whole Cert.GatherIdeal.main_v2_scv : Memref Cert.GatherIdeal.sig Kind.scVector Space.hbm Cert.GatherIdeal.S8192x128 EltTy.f32)
local notation "aV" => (Memref.whole Cert.GatherIdeal.cc0_scoped0 : Memref Cert.GatherIdeal.sig Kind.scVector Space.vmem Cert.GatherIdeal.S2x1x256 EltTy.i32)
local notation "bV" => (Memref.whole Cert.GatherIdeal.cc0_scoped2 : Memref Cert.GatherIdeal.sig Kind.scVector Space.vmem Cert.GatherIdeal.S2x256x128 EltTy.f32)

variable [FloatOps F]

section Call

variable (TB : (d : Dev nD) → Buf (Elt F) (tLoc d)) (IX : (d : Dev nD) → Buf (Elt F) (iLoc d)) (O0 : (d : Dev nD) → Buf (Elt F) (oLoc d))

/-! ## What the handshakes carry -/

/-- A tile's pieces before its task, and after. -/
abbrev goP (d : Dev nD) (c : Fin 2) (i : Fin 16) : sProp 𝕄 :=
  iprop(tPts TB d (blk c i) ∗ iPts IX d (blk c i) ∗ oPts d (blk c i) (O0 d))
abbrev tdP (d : Dev nD) (c : Fin 2) (i : Fin 16) : sProp 𝕄 :=
  iprop(tPts TB d (blk c i) ∗ iPts IX d (blk c i) ∗ oPts d (blk c i) (gath (F := F) (e := .f32) (TB d) (IX d)))

theorem nCore_zero : (K (F := F)).nCore 0 = 2 := rfl
theorem nSub_zero : (K (F := F)).nSub 0 = 16 := rfl

/-- A SparseCore takes its sixteen tiles' pieces and brings them back. -/
def P : (K (F := F)).Pay (nD := nD) (Val := Elt F) (Name := ℕ) (U := UU) where
  st := fun q d c => match q with | 0 => bigSep Finset.univ fun i : Fin 16 => goP TB IX O0 d (Fin.cast nCore_zero c) i
  dn := fun q d c => match q with | 0 => bigSep Finset.univ fun i : Fin 16 => tdP TB IX d (Fin.cast nCore_zero c) i
  go := fun q d c i => match q with | 0 => goP TB IX O0 d (Fin.cast nCore_zero c) (Fin.cast nSub_zero i)
  td := fun q d c i => match q with | 0 => tdP TB IX d (Fin.cast nCore_zero c) (Fin.cast nSub_zero i)
  x := fun _ _ => iprop(emp)

instance P_storable : (P (F := F) TB IX O0).IsStorable where
  st q d c := match q with
    | 0 => (inferInstance : BI.Storable (upEmb : UEmb _ 𝕄) (bigSep Finset.univ fun i : Fin 16 => goP TB IX O0 d (Fin.cast nCore_zero c) i))
  dn q d c := match q with
    | 0 => (inferInstance : BI.Storable (upEmb : UEmb _ 𝕄) (bigSep Finset.univ fun i : Fin 16 => tdP TB IX d (Fin.cast nCore_zero c) i))
  go q d c i := match q with
    | 0 => (inferInstance : BI.Storable (upEmb : UEmb _ 𝕄) (goP TB IX O0 d (Fin.cast nCore_zero c) (Fin.cast nSub_zero i)))
  td q d c i := match q with
    | 0 => (inferInstance : BI.Storable (upEmb : UEmb _ 𝕄) (tdP TB IX d (Fin.cast nCore_zero c) (Fin.cast nSub_zero i)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          aV (Memref.isWhole_whole _) cc0_scoped1 bV (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRows IX) : (K (F := F)).TileObl (D (F := F)) 𝒱 (P TB IX O0) v₀ 0 := by
  intro d c i O W hO _ _
  simp only [show (P TB IX O0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body TB IX O0 d (coordsV ⟨_, hci.1⟩ ⟨_, hci.2⟩) hF hpre O W hO).trans (wp_mono frame _ _ fun _ => obl_post)

theorem vecSplit : (K (F := F)).VecSplit' (P TB IX O0) 0 := by
  intro d c
  have e1 : (bigSep Finset.univ fun i : Fin ((K (F := F)).nSub 0) => goP TB IX O0 d (Fin.cast nCore_zero c) (Fin.cast nSub_zero i))
      = bigSep Finset.univ fun i : Fin 16 => goP TB IX O0 d (Fin.cast nCore_zero c) i := bigSep_congr fun _ _ => rfl
  have e2 : (bigSep Finset.univ fun i : Fin ((K (F := F)).nSub 0) => tdP TB IX d (Fin.cast nCore_zero c) (Fin.cast nSub_zero i))
      = bigSep Finset.univ fun i : Fin 16 => tdP TB IX d (Fin.cast nCore_zero c) i := bigSep_congr fun _ _ => rfl
  show (bigSep Finset.univ fun i : Fin 16 => goP TB IX O0 d (Fin.cast nCore_zero c) i) ⊢ |={Set.univ}=> iprop(
      (bigSep Finset.univ fun i : Fin ((K (F := F)).nSub 0) => goP TB IX O0 d (Fin.cast nCore_zero c) (Fin.cast nSub_zero i))
      ∗ ((bigSep Finset.univ fun i : Fin ((K (F := F)).nSub 0) => tdP TB IX d (Fin.cast nCore_zero c) (Fin.cast nSub_zero i))
          -∗ bigSep Finset.univ fun i : Fin 16 => tdP TB IX d (Fin.cast nCore_zero c) i))
  rw [e1, e2]
  iintro H; imodintro
  isplitl [H]; · iexact H
  iintro H; iexact H

/-! ## The pieces are the arrays -/

/-- A tile's block, counted over cores and tiles. -/
def blkEquiv : Fin 2 × Fin 16 ≃ Fin 32 := finProdFinEquiv

omit [FloatOps F] in
theorem bigSep_blk (Φ : Fin 32 → sProp 𝕄) :
    bigSep Finset.univ Φ = bigSep Finset.univ fun c : Fin 2 => bigSep Finset.univ fun i : Fin 16 => Φ (blk c i) := by
  rw [bigSep_univ_equiv blkEquiv, bigSep_univ_prod]
  rfl

omit [FloatOps F] in
theorem t_cut (d : Dev nD) (f : Buf (Elt F) (tLoc d)) :
    (tLoc d ↦{fullShare} f : sProp 𝕄) = bigSep Finset.univ fun k : Fin 32 => tLoc d ↦{tq k} f :=
  pointsTo_piecesOf Finset.univ f (by decide) fullShare
omit [FloatOps F] in
theorem i_cut (d : Dev nD) (f : Buf (Elt F) (iLoc d)) :
    (iLoc d ↦{fullShare} f : sProp 𝕄) = bigSep Finset.univ fun k : Fin 32 => iLoc d ↦[iBlk k]{fullShare} f := by
  rw [← pointsTo_biUnion Finset.univ (ℓ := iLoc d) iBlk (fun _ _ _ _ h => Rect.part_disjoint idiv h), Rect.biUnion_part idiv]; try rfl
omit [FloatOps F] in
theorem o_cut (d : Dev nD) (f : Buf (Elt F) (oLoc d)) :
    (oLoc d ↦{fullShare} f : sProp 𝕄) = bigSep Finset.univ fun k : Fin 32 => oLoc d ↦[oBlk k]{fullShare} f := by
  rw [← pointsTo_biUnion Finset.univ (ℓ := oLoc d) oBlk (fun _ _ _ _ h => Rect.part_disjoint odiv h), Rect.biUnion_part odiv]; try rfl

theorem st_eq (d : Dev nD) : (bigSep Finset.univ fun c : Fin ((K (F := F)).nCore 0) => (P TB IX O0).st 0 d c)
    = iprop((tLoc d ↦{fullShare} TB d) ∗ (iLoc d ↦{fullShare} IX d) ∗ oLoc d ↦{fullShare} O0 d) := by
  rw [t_cut, i_cut, o_cut, ← bigSep_sep', ← bigSep_sep', bigSep_blk]
  exact bigSep_congr fun _ _ => rfl
theorem dn_eq (d : Dev nD) : (bigSep Finset.univ fun c : Fin ((K (F := F)).nCore 0) => (P TB IX O0).dn 0 d c)
    = iprop((tLoc d ↦{fullShare} TB d) ∗ (iLoc d ↦{fullShare} IX d) ∗ oLoc d ↦{fullShare} gath (F := F) (e := .f32) (TB d) (IX d)) := by
  rw [t_cut, i_cut, o_cut, ← bigSep_sep', ← bigSep_sep', bigSep_blk]
  exact bigSep_congr fun _ _ => rfl

/-! ## The launch element of the ghost state -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P TB IX O0).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) TB IX O0).x q thr) = bigSep Finset.univ fun _ => iprop(emp) from
    bigSep_congr fun _ _ => bigSep_univ_of_subsingleton (0 : Fin 1), bigSep_emp']
  iempintro

end Call

/-! ## @main -/

section Main

abbrev tR : DevRef τ sig := Proc.devRef .tc main_v0
abbrev iR : DevRef τ sig := Proc.devRef .tc main_v1
abbrev oR : DevRef τ sig := Proc.devRef .tc main_v2

/-- The host operations before the call, and after it. -/
def opsA : List (HloOp τ sig (Elt F)) :=
  [StableHlo.nullary main_c (constantI S_ 32 0#32),
   StableHlo.TRef.unary (StableHlo.TRef.of main_c : StableHlo.TRef sig ⟨S_, .i32⟩) main_call0.v0 (sitofp .f32),
   StableHlo.TRef.binary (StableHlo.TRef.of main_arg0 : StableHlo.TRef sig ⟨S8192x32, .f32⟩) main_call0.v0 main_call0.v1 (fun x v => pad S8192x128 ![0, 0] ![0, 96] ![0, 0] x v pads_S8192x32_S8192x128_000_0960 h_S_),
   StableHlo.reshape main_arg1 main_v1 (rfl : (.i32 : EltTy) = .i32) shapeCasts_S8192_S1x8192]
def opsB : List (HloOp τ sig (Elt F)) :=
  [StableHlo.unary main_v2 main_v3 ((extractStridedSlice S8192x32 ![0, 0] · slices_S8192x128_S8192x32_0_0) : (⟨S8192x128, .f32⟩ : BufTy).Contents (Elt F) → (⟨S8192x32, .f32⟩ : BufTy).Contents (Elt F))]

theorem main_eq (d : Dev nD) : main (F := F) d = (seq opsA >>= fun _ => (sc.run d 0 >>= fun _ => (seq opsB >>= fun _ => pure ⟨⟩))) := rfl

theorem opsA_sub : ∀ op ∈ opsA (F := F), op.bufs ⊆ Pipeline.ucRefs τ sig :=
  List.forall_mem_cons.mpr ⟨Pipeline.sub_ucRefs _ (StableHlo.nullary_bufs_sub _ _ _), List.forall_mem_cons.mpr ⟨Pipeline.sub_ucRefs _ (StableHlo.unary_bufs_sub _ _ _ _ _),
    List.forall_mem_cons.mpr ⟨Pipeline.sub_ucRefs _ (StableHlo.binary_bufs_sub _ _ _ _ _ _ _), List.forall_mem_cons.mpr ⟨Pipeline.sub_ucRefs _ (StableHlo.reshape_bufs_sub _ _ _ _ _ _),
      List.forall_mem_nil _⟩⟩⟩⟩
theorem opsA_fresh : ∀ op ∈ opsA (F := F), op.fresh = ∅ :=
  List.forall_mem_cons.mpr ⟨rfl, List.forall_mem_cons.mpr ⟨rfl, List.forall_mem_cons.mpr ⟨rfl, List.forall_mem_cons.mpr ⟨rfl, List.forall_mem_nil _⟩⟩⟩⟩
theorem opsB_sub : ∀ op ∈ opsB (F := F), op.bufs ⊆ Pipeline.ucRefs τ sig :=
  List.forall_mem_cons.mpr ⟨Pipeline.sub_ucRefs _ (StableHlo.unary_bufs_sub _ _ _ _ _), List.forall_mem_nil _⟩
theorem opsB_fresh : ∀ op ∈ opsB (F := F), op.fresh = ∅ :=
  List.forall_mem_cons.mpr ⟨rfl, List.forall_mem_nil _⟩

variable (m : (ℓ : Loc nD τ sig) → Buf (Elt F) ℓ) (ρ : Dev nD → PrngReg)

/-- The device's buffers when the call begins, when it has ended, and at the end. -/
def VA (d : Dev nD) : Valuation τ sig (Elt F) := after opsA (launchContents m d)
def TB (d : Dev nD) : Buf (Elt F) (tLoc d) := VA m d tR
def IX (d : Dev nD) : Buf (Elt F) (iLoc d) := VA m d iR
def O0 (d : Dev nD) : Buf (Elt F) (oLoc d) := VA m d oR
def VC (d : Dev nD) : Valuation τ sig (Elt F) := Function.update (VA m d) oR (gath (F := F) (e := .f32) (TB m d) (IX m d))
def VB (d : Dev nD) : Valuation τ sig (Elt F) := after opsB (VC m d)

omit [FloatOps F] in
theorem held_three (d : Dev nD) (W : Valuation τ sig (Elt F)) :
    (held (SparseCore.T d) (Pipeline.ucRefs τ sig) W : sProp 𝕄)
      = iprop((tLoc d ↦{fullShare} W tR) ∗ (iLoc d ↦{fullShare} W iR) ∗ (oLoc d ↦{fullShare} W oR)
          ∗ held (SparseCore.T d) ((((Pipeline.ucRefs τ sig).erase tR).erase iR).erase oR) W) := by
  have ht : tR ∈ Pipeline.ucRefs τ sig := Finset.mem_filter.mpr ⟨StableHlo.devRef_mem_tcRefs _, by decide⟩
  have hi : iR ∈ (Pipeline.ucRefs τ sig).erase tR :=
    Finset.mem_erase.mpr ⟨StableHlo.devRef_ne_of_ne (by decide), Finset.mem_filter.mpr ⟨StableHlo.devRef_mem_tcRefs _, by decide⟩⟩
  have ho : oR ∈ ((Pipeline.ucRefs τ sig).erase tR).erase iR :=
    Finset.mem_erase.mpr ⟨StableHlo.devRef_ne_of_ne (by decide), Finset.mem_erase.mpr ⟨StableHlo.devRef_ne_of_ne (by decide),
      Finset.mem_filter.mpr ⟨StableHlo.devRef_mem_tcRefs _, by decide⟩⟩⟩
  unfold StableHlo.held
  rw [SparseCore.bigSep_erase' ht, SparseCore.bigSep_erase' hi, SparseCore.bigSep_erase' ho]

theorem held_VA (d : Dev nD) : (held (SparseCore.T d) (Pipeline.ucRefs τ sig) (VA m d) : sProp 𝕄)
      = iprop((tLoc d ↦{fullShare} TB m d) ∗ (iLoc d ↦{fullShare} IX m d) ∗ (oLoc d ↦{fullShare} O0 m d)
          ∗ held (SparseCore.T d) ((((Pipeline.ucRefs τ sig).erase tR).erase iR).erase oR) (VA m d)) := held_three d _

theorem held_VC (d : Dev nD) : (held (SparseCore.T d) (Pipeline.ucRefs τ sig) (VC m d) : sProp 𝕄)
      = iprop((tLoc d ↦{fullShare} TB m d) ∗ (iLoc d ↦{fullShare} IX m d) ∗ (oLoc d ↦{fullShare} gath (F := F) (e := .f32) (TB m d) (IX m d))
          ∗ held (SparseCore.T d) ((((Pipeline.ucRefs τ sig).erase tR).erase iR).erase oR) (VA m d)) := by
  have e1 : VC m d tR = TB m d := Function.update_of_ne (StableHlo.devRef_ne_of_ne (by decide)) _ _
  have e2 : VC m d iR = IX m d := Function.update_of_ne (StableHlo.devRef_ne_of_ne (by decide)) _ _
  have e3 : VC m d oR = gath (F := F) (e := .f32) (TB m d) (IX m d) := Function.update_self _ _ _
  rw [held_three, e1, e2, e3]
  congr 3

abbrev FIN (d : Dev nD) : sProp 𝕄 := held (SparseCore.T d) (Pipeline.ucRefs τ sig) (VB m d)

theorem hmain (κ : GSem nD τ sig → ℕ) (d : Dev nD) :
    iprop((K (F := F)).ctx EH (P (TB m) (IX m) (O0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (launchContents m d)
    from Pipeline.unscopedBufs_held d (launchContents m d)]
  iintro ⟨#Hctx, Hst, ⟨Hb, Hh, Hts, -⟩, -⟩
  iapply (StableHlo.wp_seq 𝒱 none Set.univ d (Pipeline.ucRefs τ sig) _ opsA opsA_sub opsA_fresh (launchContents m d)) $$ [Hb Hh]
  · isplitl [Hb]; · iexact Hb
    iexact Hh
  iintro ⟨Hb, Hh⟩
  rw [show after opsA (launchContents m d) = VA m d from rfl]
  ihave Hh' := (Entails.of_eq (held_VA m d)) $$ Hh
  icases Hh' with ⟨Ht, Hi, Ho, Hrest⟩
  rw [wp_bind]
  iapply ((K (F := F)).wp_run (D (F := F)) 𝒱 (EH := EH) (P := P (TB m) (IX m) (O0 m)) κ d 0) $$ [Hst Ht Hi Ho Hrest Hb Hts]
  isplitr; · iexact Hctx
  isplitl [Hst]; · iexact Hst
  isplitl [Ht Hi Ho]
  · rw [st_eq]
    isplitl [Ht]; · iexact Ht
    isplitl [Hi]; · iexact Hi
    iexact Ho
  iintro ⟨Hst, Hdn⟩
  ihave Hdn' := (Entails.of_eq (dn_eq (TB m) (IX m) (O0 m) d)) $$ Hdn
  icases Hdn' with ⟨Ht, Hi, Ho⟩
  ihave Hh := (Entails.of_eq (held_VC m d).symm) $$ [Ht Hi Ho Hrest]
  · isplitl [Ht]; · iexact Ht
    isplitl [Hi]; · iexact Hi
    isplitl [Ho]; · iexact Ho
    iexact Hrest
  iapply (StableHlo.wp_seq 𝒱 none Set.univ d (Pipeline.ucRefs τ sig) _ opsB opsB_sub opsB_fresh (VC m d)) $$ [Hb Hh]
  · isplitl [Hb]; · iexact Hb
    iexact Hh
  iintro ⟨Hb, Hh⟩
  rw [wp_pure]; imodintro
  isplitl [Hst]; · iexact Hst
  isplitr [Hb Hts]; · iexact Hh
  isplitl [Hb] <;> iassumption

def fq (d : Dev nD) (s' : Phys nD τ sig (Elt F)) : Prop := ∀ b ∈ Pipeline.ucRefs τ sig, s'.mem.mem (d, b) = VB m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- Every buffer at the end, and every counter at zero. -/
def QC : PUnit × MemSt nD τ sig (Elt F) → Prop := fun r =>
  (∀ (d : Dev nD), ∀ b ∈ Pipeline.ucRefs τ sig, r.2.mem (d, b) = VB m d b) ∧ r.2.sem = fun _ => 0

/-- From any launch memory whose row numbers are in range: the program runs, every buffer ends as the fold says, and
    every semaphore counter ends at zero. -/
theorem run_all [∀ e, Nonempty (Elt F e)] (hpre : InRows (IX m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (TB m) (IX m) (O0 m)) (A := ∅) facts v₀
    (fun q hq => match q with | 0 => nomatch hq)
    (fun q _ => match q with | 0 => tileObl (TB m) (IX m) (O0 m) facts hpre)
    (fun q _ => match q with | 0 => SparseCore.Cfg.VecSplit.of_plain (vecSplit (TB m) (IX m) (O0 m)))
    m ρ main (fun _ => iprop(emp)) (FIN m) (u₀ (F := F)) (sep_elim_left.trans (hu₀ (TB m) (IX m) (O0 m))) (hmain m ρ) (fq m) (hfin m) (QC m) (fun _ h hz => ⟨h, hz⟩)

end Main

end Cert.Proof.GatherTile

end
-- ==== Proof.TakeRows.lean ====
/-
  The plain program of the gather: its run, and what it leaves — row `j` of the result is the table's row named by
  the `j`-th number, when that number is in range.
-/
module

public import proofs.«01_k».proof.Defs
public import proofs.«01_k».proof.Proof.Gen.TakeIdeal
public import Idealize.ShloMosaic.Lib.StableHlo.Run
public import Idealize.ShloMosaic.Lib.Quiescent
public import Idealize.ShloMosaic.PureOps.Reduce

@[expose] public section

noncomputable section

namespace Cert.Proof.TakeRows

open Cert.TakeIdeal Cert.TakeIdeal.Gen
open Idealize.ShloMosaic Idealize.ShloMosaic.TcCoe Idealize.ShloMosaic.StableHlo Idealize.SL.Sem

variable {F : FTy → Type} [FloatOps F]

/-- The program's operations, in order. -/
def ops : List (HloOp τ sig (Elt F)) :=
  [StableHlo.TRef.nullary main_call0.c (constantI S_ 32 0#32),
   StableHlo.TRef.unary main_call0.c main_call0.v0 (broadcastInDim S8192 ![] bcast_S_S8192),
   StableHlo.TRef.binary (StableHlo.TRef.of main_arg1 : StableHlo.TRef sig ⟨S8192, .i32⟩) main_call0.v0 main_call0.v1 (cmpi .slt),
   StableHlo.TRef.nullary main_call0.c_0 (constantI S_ 32 8192#32),
   StableHlo.TRef.unary main_call0.c_0 main_call0.v2 (broadcastInDim S8192 ![] bcast_S_S8192),
   StableHlo.TRef.binary (StableHlo.TRef.of main_arg1 : StableHlo.TRef sig ⟨S8192, .i32⟩) main_call0.v2 main_call0.v3 addi,
   StableHlo.TRef.ternary main_call0.v1 main_call0.v3 (StableHlo.TRef.of main_arg1 : StableHlo.TRef sig ⟨S8192, .i32⟩) main_call0.call0.v0 select,
   StableHlo.TRef.unary main_call0.call0.v0 main_call0.v5 (broadcastInDim S8192x1 ![0] bcast_S8192_S8192x1_0),
   StableHlo.TRef.nullary main_call0.c_1 (constantI S1 32 8191#32),
   StableHlo.TRef.nullary main_call0.c_2 (constantI S_ 32 0#32),
   StableHlo.TRef.unary main_call0.c_2 main_call0.v6 (broadcastInDim S8192x1 ![] bcast_S_S8192x1),
   StableHlo.TRef.binary main_call0.v5 main_call0.v6 main_call0.v7 (cmpi .sge),
   StableHlo.TRef.unary main_call0.c_1 main_call0.v8 (broadcastInDim S1x1 ![1] bcast_S1_S1x1_1),
   StableHlo.TRef.unary main_call0.v8 main_call0.v9 (broadcastInDim S8192x1 ![0, 1] bcast_S1x1_S8192x1_0_1),
   StableHlo.TRef.binary main_call0.v5 main_call0.v9 main_call0.v10 (cmpi .sle),
   StableHlo.TRef.binary main_call0.v7 main_call0.v10 main_call0.v11 andi,
   StableHlo.TRef.nullary main_call0.c_3 (constantI S_ 1 1#1),
   StableHlo.TRef.binary main_call0.v11 main_call0.c_3 main_call0.v12 (fun x v => Host.reduce IntOp.andi x v reducesTo_S8192x1_S8192_d1 h_S_),
   StableHlo.TRef.binary (StableHlo.TRef.of main_arg0 : StableHlo.TRef sig ⟨S8192x32, .f32⟩) main_call0.v5 main_call0.v13 (fun x i => Host.gather gather_S8192x32_S8192x1_S8192x32_1_0_n_n_0_1_132 x i),
   StableHlo.TRef.unary main_call0.v12 main_call0.v14 (broadcastInDim S8192x32 ![0] bcast_S8192_S8192x32_0),
   StableHlo.TRef.nullary main_call0.cst (constant S_ .f32 0x7FC00000#32),
   StableHlo.TRef.unary main_call0.cst main_call0.v15 (broadcastInDim S8192x32 ![] bcast_S_S8192x32),
   StableHlo.TRef.ternary main_call0.v14 main_call0.v13 main_call0.v15 main_call0.v16 select]

theorem main_eq (c : Dev nD) : main (F := F) c = seq ops := rfl

theorem ops_sub : (ops : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The start column the gather reads: a negative number has the table's height added. -/
def startCol (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- Which rows are in range. -/
def okCol (i : IVec S8192 32) : IVec S8192 1 :=
  Host.reduce IntOp.andi
    (andi (cmpi .sge (startCol i) (broadcastInDim S8192x1 ![] bcast_S_S8192x1 (constantI S_ 32 0#32)))
      (cmpi .sle (startCol i) (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- What the program computes of a table and row numbers. -/
def taken (x : FVec F S8192x32 .f32) (i : IVec S8192 32) : FVec F S8192x32 .f32 :=
  select (broadcastInDim S8192x32 ![0] bcast_S8192_S8192x32_0 (okCol i))
    (Host.gather gather_S8192x32_S8192x1_S8192x32_1_0_n_n_0_1_132 x (startCol i))
    (broadcastInDim S8192x32 ![] bcast_S_S8192x32 (constant S_ .f32 0x7FC00000#32))

set_option maxRecDepth 16384 in
theorem out_eq (V : Valuation τ sig (Elt F)) :
    after ops V (main_v0 : DevRef τ sig) = taken (V (main_arg0 : DevRef τ sig)) (V (main_arg1 : DevRef τ sig)) := by
  delta ops
  after_results_simp
  rfl
theorem arg0_eq (V : Valuation τ sig (Elt F)) : after ops V (main_arg0 : DevRef τ sig) = V (main_arg0 : DevRef τ sig) := rfl
theorem arg1_eq (V : Valuation τ sig (Elt F)) : after ops V (main_arg1 : DevRef τ sig) = V (main_arg1 : DevRef τ sig) := rfl

theorem scopedRefs_eq : (Finset.univ.filter fun b : Ref sig .tc => b.isScoped) = ∅ := by decide
theorem scopedSems_eq : (Finset.univ.filter fun sm : SemLoc sig => sm.isScoped .tc) = ∅ := by decide

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = taken (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v0).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

/-! ## The result, entry by entry -/

/-- The position of entry `p` of the row numbers, and of the start column. -/
abbrev ix1 (p : Fin 8192) : S8192.Idx := fun | ⟨0, _⟩ => p
abbrev ixc (p : Fin 8192) : S8192x1.Idx := fun | ⟨0, _⟩ => p | ⟨1, _⟩ => (0 : Fin 1)
/-- Entry `q` of row `p` of the table. -/
abbrev ixr (p : Fin 8192) (q : Fin 32) : S8192x32.Idx := fun | ⟨0, _⟩ => p | ⟨1, _⟩ => q

/-- A word below 8192 is not negative, is its own signed value, and lies between 0 and 8191. -/
theorem word_small (v : BitVec 32) (h : v.toNat < 8192) :
    v.toInt = v.toNat ∧ IntOp.cmpi .slt v 0#32 = 0#1 ∧ IntOp.andi (IntOp.cmpi .sge v 0#32) (IntOp.cmpi .sle v 8191#32) = 1#1 := by
  have e : v.toInt = v.toNat := by rw [BitVec.toInt_eq_toNat_cond]; omega
  have e0 : (0#32 : BitVec 32).toInt = 0 := by decide
  have e1 : (8191#32 : BitVec 32).toInt = 8191 := by decide
  have h1 : BitVec.slt v 0#32 = false := by rw [BitVec.slt_eq_decide, e, e0]; simp
  have h2 : BitVec.sle 0#32 v = true := by rw [BitVec.sle_eq_decide, e, e0]; simp
  have h3 : BitVec.sle v 8191#32 = true := by rw [BitVec.sle_eq_decide, e, e1]; simp; omega
  refine ⟨e, ?_, ?_⟩
  · simp only [IntOp.cmpi, h1]; rfl
  · simp only [IntOp.cmpi, h2, h3]; rfl

/-- Every row number is in range. -/
abbrev InRange (i : IVec S8192 32) : Prop := ∀ p, (i p).toNat < 8192

theorem startCol_at (i : IVec S8192 32) (h : InRange i) (j : S8192x1.Idx) : startCol i j = i (ix1 (j 0)) := by
  have hs : ∀ r : S8192.Idx, Scalar.select (IntOp.cmpi .slt (i r) 0#32) (IntOp.addi (i r) 8192#32) (i r) = i r := by
    intro r; rw [(word_small _ (h r)).2.1]; rfl
  refine (hs _).trans (congrArg i ?_)
  funext a
  match a with
  | ⟨0, _⟩ => rfl

theorem foldl_ones {α : Type} (x : α → BitVec 1) (hx : ∀ i, x i = 1#1) (l : List α) :
    l.foldl (fun r i => IntOp.andi r (x i)) 1#1 = 1#1 := by
  induction l with
  | nil => rfl
  | cons a l ih => rw [List.foldl_cons, hx a]; exact ih

theorem okCol_at (i : IVec S8192 32) (h : InRange i) (p : S8192.Idx) : okCol i p = 1#1 := by
  unfold okCol
  rw [Host.reduce_eq_foldl]
  refine foldl_ones _ (fun j => ?_) _
  have e : startCol i j = i (ix1 (j 0)) := startCol_at i h j
  show IntOp.andi (IntOp.cmpi .sge (startCol i j) 0#32) (IntOp.cmpi .sle (startCol i j) 8191#32) = 1#1
  rw [e]
  exact (word_small _ (h _)).2.2

theorem gather_at (x : FVec F S8192x32 .f32) (i : IVec S8192x1 32) (j : S8192x32.Idx) :
    Host.gather gather_S8192x32_S8192x1_S8192x32_1_0_n_n_0_1_132 x i j
      = x (ixr ⟨min (i (ixc (j 0))).toInt.toNat 8191, by omega⟩ (j 1)) := by
  have hsi : ∀ c, gather_S8192x32_S8192x1_S8192x32_1_0_n_n_0_1_132.siIdx j c = ixc (j 0) := by
    intro c
    have hc : c.val = 0 := by have := c.isLt; change c.val < 1 at this; omega
    funext b
    match b with
    | ⟨0, _⟩ => rfl
    | ⟨1, _⟩ => exact Fin.ext hc
  unfold Host.gather
  refine congrArg x ?_
  funext a
  match a with
  | ⟨0, _⟩ => exact Fin.ext (congrArg (fun k => min (i k).toInt.toNat 8191) (hsi _))
  | ⟨1, _⟩ => exact Fin.ext (show 0 + 0 + (j 1).val = (j 1).val by omega)

theorem sel_one {α : Type} (a b : α) : Scalar.select 1#1 a b = a := if_pos rfl

/-- Row `j` of the result is the table's row named by the `j`-th number. -/
theorem taken_at (x : FVec F S8192x32 .f32) (i : IVec S8192 32) (h : InRange i) (j : S8192x32.Idx) :
    taken x i j = x (ixr ⟨(i (ix1 (j 0))).toNat, h _⟩ (j 1)) := by
  have hs : taken x i j = Scalar.select (broadcastInDim S8192x32 ![0] bcast_S8192_S8192x32_0 (okCol i) j)
    (Host.gather gather_S8192x32_S8192x1_S8192x32_1_0_n_n_0_1_132 x (startCol i) j) (broadcastInDim S8192x32 ![] bcast_S_S8192x32 (constant S_ .f32 0x7FC00000#32) j) := rfl
  rw [hs, show broadcastInDim S8192x32 ![0] bcast_S8192_S8192x32_0 (okCol i) j = 1#1 from okCol_at i h _]
  rw [sel_one, gather_at]
  have e2 : min (startCol i (ixc (j 0))).toInt.toNat 8191 = (i (ix1 (j 0))).toNat := by
    rw [show startCol i (ixc (j 0)) = i (ix1 (j 0)) from startCol_at i h _, (word_small _ (h _)).1]; have := h (ix1 (j 0)); omega
  exact congrArg (fun r => x (ixr r (j 1))) (Fin.ext e2)

end Cert.Proof.TakeRows

end
-- ==== Proof.GatherClaims.lean ====
/-
  The gather call alone: what its program leaves, and that it is what the plain program leaves.
-/
module

public import proofs.«01_k».proof.Proof.GatherLaunch
public import proofs.«01_k».proof.Proof.TakeRows
public import proofs.«01_k».proof.Proof.Gen.Gather
public import proofs.«01_k».proof.Proof.Gen.Take
public import proofs.«01_k».proof.Proof.Gen.Pre_in_range
public import Idealize.ShloMosaic.Lib.Pointwise

@[expose] public section

noncomputable section

namespace Cert.Proof.GatherTile

open Cert.GatherIdeal Cert.GatherIdeal.Gen
open Idealize.ShloMosaic Idealize.ShloMosaic.StableHlo Idealize.SL.Sem
open Cert.Proof.TakeRows (taken taken_at InRange ixr)

variable {F : FTy → Type} [FloatOps F]

/-- The table padded to 128 lanes, and the row numbers as one row. -/
def padded (x : FVec F S8192x32 .f32) : FVec F S8192x128 .f32 :=
  pad S8192x128 ![0, 0] ![0, 96] ![0, 0] x (sitofp .f32 (constantI S_ 32 0#32) : FVec F S_ .f32) pads_S8192x32_S8192x128_000_0960 h_S_
def flat (i : IVec S8192 32) : IVec S1x8192 32 := shapeCast S1x8192 i shapeCasts_S8192_S1x8192

/-- What the program leaves. -/
def left (x : FVec F S8192x32 .f32) (i : IVec S8192 32) : FVec F S8192x32 .f32 :=
  extractStridedSlice S8192x32 ![0, 0] (gath (F := F) (e := .f32) (padded x) (flat i) : FVec F S8192x128 .f32) slices_S8192x128_S8192x32_0_0

theorem flat_at (i : IVec S8192 32) (r : Fin 8192) : flat i (ixI r) = i (TakeRows.ix1 r) := by
  unfold flat
  pointwise
  refine congrArg i ?_
  funext a
  match a with
  | ⟨0, _⟩ => rfl

theorem padded_at (x : FVec F S8192x32 .f32) (j : S8192x128.Idx) (h : (j 1).val < 32) : padded x j = x (ixr (j 0) ⟨(j 1).val, h⟩) := by
  unfold padded
  pointwise
  rw [dif_pos h]
  refine congrArg x ?_
  funext a
  match a with
  | ⟨0, _⟩ => rfl
  | ⟨1, _⟩ => rfl

theorem gath_at {e : EltTy} (TB : S8192x128.Idx → Elt F e) (IX : S1x8192.Idx → BitVec 32) (x : S8192x128.Idx)
    (h : (IX (ixI (x 0))).toNat < 8192) :
    gath TB IX x = TB fun a => match a with | ⟨0, _⟩ => (⟨(IX (ixI (x 0))).toNat, h⟩ : Fin 8192) | ⟨1, _⟩ => x 1 := by
  unfold gath
  refine congrArg TB ?_
  funext a
  match a with
  | ⟨0, _⟩ => exact Fin.ext (dite_val _ h _)
  | ⟨1, _⟩ => rfl

theorem left_eq_taken (x : FVec F S8192x32 .f32) (i : IVec S8192 32) (h : InRange i) : left x i = taken x i := by
  funext j
  rw [taken_at x i h j]
  have hj : (j 1).val < 32 := (j 1).isLt
  have hz : (⟨0 + (j 0).val, by have : (j 0).val < 8192 := (j 0).isLt; omega⟩ : Fin 8192) = j 0 := Fin.ext (Nat.zero_add _)
  have hlt : (flat i (ixI (⟨0 + (j 0).val, by have : (j 0).val < 8192 := (j 0).isLt; omega⟩ : Fin 8192))).toNat < 8192 := h _
  have hl : left x i j = gath (F := F) (e := .f32) (padded x) (flat i)
      (fun a => match a with
        | ⟨0, _⟩ => (⟨0 + (j 0).val, by have : (j 0).val < 8192 := (j 0).isLt; omega⟩ : Fin 8192)
        | ⟨1, _⟩ => (⟨0 + (j 1).val, by omega⟩ : Fin 128)) := by
    unfold left extractStridedSlice
    refine congrArg (gath (F := F) (e := .f32) (padded x) (flat i)) ?_
    funext a
    match a with
    | ⟨0, _⟩ => rfl
    | ⟨1, _⟩ => rfl
  rw [hl, gath_at _ _ _ hlt]
  refine (padded_at x _ (show 0 + (j 1).val < 32 by omega)).trans (congrArg x ?_)
  funext a
  match a with
  | ⟨0, _⟩ =>
    refine Fin.ext ?_
    show (flat i (ixI _)).toNat = _
    rw [flat_at, hz]
  | ⟨1, _⟩ => exact Fin.ext (show 0 + (j 1).val = (j 1).val by omega)

variable (m : (ℓ : Loc nD τ sig) → Buf (Elt F) ℓ) (ρ : Dev nD → PrngReg)

set_option maxRecDepth 16384 in
theorem TB_eq (d : Dev nD) : TB m d = padded (m ((d.tc : Thread nD τ).loc main_arg0)) := by
  unfold TB VA
  delta opsA
  after_results_simp
  rfl

set_option maxRecDepth 16384 in
theorem IX_eq (d : Dev nD) : IX m d = flat (m ((d.tc : Thread nD τ).loc main_arg1)) := by
  unfold IX VA
  delta opsA
  after_results_simp
  rfl

theorem VB_out (d : Dev nD) : VB m d (Proc.devRef .tc main_v3)
    = left (m ((d.tc : Thread nD τ).loc main_arg0)) (m ((d.tc : Thread nD τ).loc main_arg1)) := by
  have e : VB m d (Proc.devRef .tc main_v3) = extractStridedSlice S8192x32 ![0, 0] (VC m d oR : FVec F S8192x128 .f32) slices_S8192x128_S8192x32_0_0 := by
    unfold VB
    delta opsB
    after_results_simp
  rw [e, show VC m d oR = gath (F := F) (e := .f32) (TB m d) (IX m d) from Function.update_self _ _ _, TB_eq, IX_eq]
  rfl

theorem VB_arg0 (d : Dev nD) : VB m d (Proc.devRef .tc main_arg0) = m ((d.tc : Thread nD τ).loc main_arg0) := by
  have e : VB m d (Proc.devRef .tc main_arg0) = VC m d (Proc.devRef .tc main_arg0) := by
    unfold VB
    delta opsB
    after_results_simp
  rw [e]
  refine (Function.update_of_ne (StableHlo.devRef_ne_of_ne (by decide)) _ _).trans ?_
  unfold VA
  delta opsA
  after_results_simp

theorem VB_arg1 (d : Dev nD) : VB m d (Proc.devRef .tc main_arg1) = m ((d.tc : Thread nD τ).loc main_arg1) := by
  have e : VB m d (Proc.devRef .tc main_arg1) = VC m d (Proc.devRef .tc main_arg1) := by
    unfold VB
    delta opsB
    after_results_simp
  rw [e]
  refine (Function.update_of_ne (StableHlo.devRef_ne_of_ne (by decide)) _ _).trans ?_
  unfold VA
  delta opsA
  after_results_simp

/-- The program's run, in terms of its arguments. -/
theorem run_main [∀ e, Nonempty (Elt F e)] (hpre : ∀ d : Dev nD, InRange (m ((d.tc : Thread nD τ).loc main_arg1))) :
    θ_run (Cert.GatherIdeal.defs (F := F)) (Cert.GatherIdeal.threads (F := F)) ⟨m, fun _ => 0, ρ⟩ fun r =>
      (∀ c : Dev nD, r.2.mem ((c.tc : Thread nD τ).loc main_v3) = taken (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  have hin : InRows (IX m) := fun d j => by rw [IX_eq]; exact hpre d _
  refine (θ_run (Cert.GatherIdeal.defs (F := F)) _ _).mono (fun r h => ⟨fun c => ⟨?_, ?_, ?_⟩, h.2⟩) (run_all m ρ hin)
  · exact ((h.1 c _ (Finset.mem_filter.mpr ⟨StableHlo.devRef_mem_tcRefs main_v3, by decide⟩)).trans (VB_out m c)).trans (left_eq_taken _ _ (hpre c))
  · exact (h.1 c _ (Finset.mem_filter.mpr ⟨StableHlo.devRef_mem_tcRefs main_arg0, by decide⟩)).trans (VB_arg0 m c)
  · exact (h.1 c _ (Finset.mem_filter.mpr ⟨StableHlo.devRef_mem_tcRefs main_arg1, by decide⟩)).trans (VB_arg1 m c)

/-! ## The claims -/

/-- The precondition, entry by entry: a word that is not negative and is less than 8192 as a signed word is below 8192. -/
theorem inRange_of_pre (x : FVec F S8192x32 .f32) (i : IVec S8192 32) (h : Cert.Pre_in_range.fn (F := F) x i = fun _ => 1#1) : InRange i := by
  have both (p q : Bool) : IntOp.andi (BitVec.ofBool p) (BitVec.ofBool q) = 1#1 → p = true ∧ q = true := by cases p <;> cases q <;> decide
  have word : ∀ v : BitVec 32, IntOp.andi (IntOp.cmpi .sge v 0#32) (IntOp.cmpi .slt v 8192#32) = 1#1 → v.toNat < 8192 := by
    intro v e
    obtain ⟨h1, h2⟩ := both _ _ e
    change BitVec.sle 0#32 v = true at h1
    change BitVec.slt v 8192#32 = true at h2
    rw [BitVec.sle_eq_decide, decide_eq_true_eq] at h1
    rw [BitVec.slt_eq_decide, decide_eq_true_eq] at h2
    have e0 : (0#32 : BitVec 32).toInt = 0 := by decide
    have e1 : (8192#32 : BitVec 32).toInt = 8192 := by decide
    rw [e0] at h1
    rw [e1] at h2
    rw [BitVec.toInt_eq_toNat_cond] at h1 h2
    split at h1 <;> split at h2 <;> omega
  intro p
  exact word _ (congrFun h p)

theorem frame_gatherIdeal : Cert.quiescent_GatherIdeal := fun m ρ hp =>
  (θ_run Cert.GatherIdeal.defs _ _).mono (fun _ h => ⟨fun c => (h.1 c).2, h.2⟩) (run_main (F := Ideal) m ρ fun d => inRange_of_pre _ _ (hp d))

theorem frame_gather : Cert.quiescent_Gather := fun m ρ hp =>
  (θ_run Cert.GatherIdeal.defs _ _).mono (fun _ h => ⟨fun c => (h.1 c).2, h.2⟩) (run_main (F := Bits) m ρ fun d => inRange_of_pre _ _ (hp d))

theorem frame_takeIdeal : Cert.quiescent_TakeIdeal := fun m ρ _ =>
  (θ_run Cert.TakeIdeal.defs _ _).mono (fun _ h => ⟨fun c => (h.1 c).2, h.2⟩) (Cert.Proof.TakeRows.run_main (F := Ideal) m ρ)
theorem frame_takeIdeal_pre : Cert.quiescent_TakeIdeal_pre_in_range := fun m ρ _ =>
  (θ_run Cert.TakeIdeal.defs _ _).mono (fun _ h => ⟨fun c => (h.1 c).2, h.2⟩) (Cert.Proof.TakeRows.run_main (F := Ideal) m ρ)
theorem frame_take : Cert.quiescent_Take := fun m ρ _ =>
  (θ_run Cert.TakeIdeal.defs _ _).mono (fun _ h => ⟨fun c => (h.1 c).2, h.2⟩) (Cert.Proof.TakeRows.run_main (F := Bits) m ρ)

theorem algebraic_gather : Cert.algebraic_GatherIdeal_TakeIdeal := fun m ρ m' ρ' hp hag =>
  ⟨fun c => taken (F := Ideal) (m ((c.tc : Thread nD τ).loc main_arg0)) (m ((c.tc : Thread nD τ).loc main_arg1)),
    (θ_run Cert.GatherIdeal.defs _ _).mono (fun _ h c => h.1 c) (run_main (F := Ideal) m ρ fun d => inRange_of_pre _ _ (hp d)),
    (θ_run Cert.TakeIdeal.defs _ _).mono (fun _ h c => ⟨(h.1 c).1.trans (congrArg₂ (taken (F := Ideal)) (hag c).1 (hag c).2), (h.1 c).2⟩) (Cert.Proof.TakeRows.run_main (F := Ideal) m' ρ')⟩

theorem bitexact_gather : Cert.bitexact_Gather_Take := fun m ρ m' ρ' hp hag =>
  ⟨fun c => taken (F := Bits) (m ((c.tc : Thread nD τ).loc main_arg0)) (m ((c.tc : Thread nD τ).loc main_arg1)),
    (θ_run Cert.GatherIdeal.defs _ _).mono (fun _ h c => h.1 c) (run_main (F := Bits) m ρ fun d => inRange_of_pre _ _ (hp d)),
    (θ_run Cert.TakeIdeal.defs _ _).mono (fun _ h c => ⟨(h.1 c).1.trans (congrArg₂ (taken (F := Bits)) (hag c).1 (hag c).2), (h.1 c).2⟩) (Cert.Proof.TakeRows.run_main (F := Bits) m' ρ')⟩

end Cert.Proof.GatherTile

end
-- ==== Proof.KernelTile.lean ====
/-
  The gather call of the whole kernel: one tile's task. Tile `(c, i)` fetches 256 row numbers, gathers those rows of the table into
  its slot and writes them out to its 256 rows of the result. Stated for any contents of the table and of the row
  numbers, over any float values.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The three arrays and their pieces -/

abbrev tLoc (d : Dev nD) : Loc nD τ sig := (SparseCore.T d).loc main_v4
abbrev iLoc (d : Dev nD) : Loc nD τ sig := (SparseCore.T d).loc main_v5
abbrev oLoc (d : Dev nD) : Loc nD τ sig := (SparseCore.T d).loc main_v6

local notation "tV" => (Memref.whole Cert.KernelIdeal.main_v4_scv : Memref Cert.KernelIdeal.sig Kind.scVector Space.hbm Cert.KernelIdeal.S8192x128 EltTy.f32)
local notation "iV" => (Memref.whole Cert.KernelIdeal.main_v5_scv : Memref Cert.KernelIdeal.sig Kind.scVector Space.hbm Cert.KernelIdeal.S1x8192 EltTy.i32)
local notation "oV" => (Memref.whole Cert.KernelIdeal.main_v6_scv : Memref Cert.KernelIdeal.sig Kind.scVector Space.hbm Cert.KernelIdeal.S8192x128 EltTy.f32)
local notation "aV" => (Memref.whole Cert.KernelIdeal.cc1_scoped0 : Memref Cert.KernelIdeal.sig Kind.scVector Space.vmem Cert.KernelIdeal.S2x1x256 EltTy.i32)
local notation "bV" => (Memref.whole Cert.KernelIdeal.cc1_scoped2 : Memref Cert.KernelIdeal.sig Kind.scVector Space.vmem Cert.KernelIdeal.S2x256x128 EltTy.f32)

theorem idiv : 32 ∣ S1x8192.size 1 := ⟨256, rfl⟩
theorem odiv : 32 ∣ S8192x128.size 0 := ⟨256, rfl⟩

/-- Block `k` of the row numbers and of the result. -/
abbrev iBlk (k : Fin 32) : Finset S1x8192.Idx := (Rect.part (s := S1x8192) (a₀ := 1) idiv k).set
abbrev oBlk (k : Fin 32) : Finset S8192x128.Idx := (Rect.part (s := S8192x128) (a₀ := 0) odiv k).set
/-- Block `k`'s share of the table. -/
abbrev tq (k : Fin 32) : PosShare TreeShare := pieceOf fullShare 32 (by decide) k

/-- The block tile `(c, i)` does. -/
abbrev blk (c : Fin 2) (i : Fin 16) : Fin 32 := ⟨i.val + 16 * c.val, by omega⟩

/-- Row number `r`, as an index of the array of all of them. -/
abbrev ixI (r : Fin 8192) : S1x8192.Idx := fun b => match b with | 0 => (0 : Fin 1) | 1 => r

/-- What the call leaves: row `r` of the result is the table's row at the row number `r` names. -/
def gath {e : EltTy} (TB : S8192x128.Idx → Elt F e) (IX : S1x8192.Idx → BitVec 32) : S8192x128.Idx → Elt F e := fun x =>
  TB fun a => match a with
    | 0 => if h : (IX (ixI (x 0))).toNat < 8192 then ⟨(IX (ixI (x 0))).toNat, h⟩ else x 0
    | 1 => x 1

theorem dite_val (n : Nat) (hn : n < 8192) (e : Fin 8192) : (if h : n < 8192 then (⟨n, h⟩ : Fin 8192) else e).val = n := by
  rw [dif_pos hn]

variable [FloatOps F]

section Tile

variable (TB : (d : Dev nD) → Buf (Elt F) (tLoc d)) (IX : (d : Dev nD) → Buf (Elt F) (iLoc d)) (O0 : (d : Dev nD) → Buf (Elt F) (oLoc d))

/-- Every row number names a row of the table. -/
def InRows : Prop := ∀ (d : Dev nD) (j : S1x8192.Idx), (IX d j : BitVec 32).toNat < 8192

abbrev tPts (d : Dev nD) (k : Fin 32) : sProp 𝕄 := tLoc d ↦{tq k} TB d
abbrev iPts (d : Dev nD) (k : Fin 32) : sProp 𝕄 := iLoc d ↦[iBlk k]{fullShare} IX d
abbrev oPts (d : Dev nD) (k : Fin 32) (f : Buf (Elt F) (oLoc d)) : sProp 𝕄 := oLoc d ↦[oBlk k]{fullShare} f

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev kL (L : grid1.Coords) : Fin 32 := ⟨(L 1).val + 16 * (L 0).val, by
  have h0 : (L 0).val < 2 := (L 0).isLt
  have h1 : (L 1).val < 16 := (L 1).isLt
  omega⟩

omit [FloatOps F] in
theorem cond1 : ∀ L : grid1.Coords, ¬ k1_cond1 L = 1#1 := by decide +kernel
omit [FloatOps F] in
theorem cond2 : ∀ L : grid1.Coords, k1_cond2 L = 1#1 := by decide +kernel
omit [FloatOps F] in
theorem cond5 : ∀ L : grid1.Coords, k1_cond5 L = 1#1 := by decide +kernel
omit [FloatOps F] in
theorem cond7 : ∀ L : grid1.Coords, ¬ k1_cond7 L = 1#1 := by decide +kernel

/-- The block of row numbers and the block of the result, as the task addresses them. -/
abbrev iBlkK (L : grid1.Coords) : Memref sig .scVector .hbm S1x256 .i32 :=
  (iV).slice (Rect.unit (s := S1x8192) (k1_off2 L) S1x256.size (k1_off2_inb L)) (fun _ => rfl)
abbrev oBlkK (L : grid1.Coords) : Memref sig .scVector .hbm S256x128 .f32 :=
  (oV).slice (Rect.unit (s := S8192x128) (k1_off12 L) S256x128.size (k1_off12_inb L (cond5 L))) (fun _ => rfl)
/-- The index slot the task uses, and the list it holds. -/
abbrev aSlot : Memref sig .scVector .vmem S1x256 .i32 :=
  ((aV).slice (Rect.unit (s := S2x1x256) k1_off1 S1x1x256.size k1_off1_inb) (fun _ => rfl)).squeeze S1x256 squeezes_S1x1x256_S1x256
abbrev aList : Memref sig .scVector .vmem S256 .i32 :=
  (aSlot.slice (Rect.unit (s := S1x256) ![0, 0] S1x256.size inb_S1x256_S1x256_0_0) (fun _ => rfl)).squeeze S256 squeezes_S1x256_S256

/-- The slot the gathered rows land in. -/
abbrev bSlot : Memref sig .scVector .vmem S256x128 .f32 :=
  ((bV).slice (Rect.unit (s := S2x256x128) k1_off10 S1x256x128.size k1_off10_inb) (fun _ => rfl)).squeeze S256x128 squeezes_S1x256x128_S256x128

omit [FloatOps F] in
theorem set_iBlkK : (iBlkK L).view.set = iBlk (kL L) := by
  show (((View.whole (main_v5_scv : Ref sig .scVector)).slice _).set = _)
  rw [View.set_slice]
  refine Finset.map_refl.trans (congrArg (fun r : Rect _ => r.set) ?_)
  unfold Rect.part Rect.block
  congr 1 <;> funext a
  · rw [k1_off2_eq]
    match a with
    | 0 => simp [Shape.partIx, Shape.partSize]
    | 1 => simp [Shape.partIx, Shape.partSize]; omega
  · match a with
    | 0 => simp [Shape.partSize]
    | 1 => simp [Shape.partSize]
omit [FloatOps F] in
theorem set_oBlkK : (oBlkK L).view.set = oBlk (kL L) := by
  show (((View.whole (main_v6_scv : Ref sig .scVector)).slice _).set = _)
  rw [View.set_slice]
  refine Finset.map_refl.trans (congrArg (fun r : Rect _ => r.set) ?_)
  unfold Rect.part Rect.block
  congr 1 <;> funext a
  · rw [k1_off12_eq]
    match a with
    | 0 => simp [Shape.partIx, Shape.partSize]; omega
    | 1 => simp [Shape.partIx, Shape.partSize]
  · match a with
    | 0 => simp [Shape.partSize]
    | 1 => simp [Shape.partSize]

omit [FloatOps F] in
theorem pts_iBlkK (f : Buf (Elt F) (iLoc d)) :
    ((iBlkK L).view.loc (V d (cV L) (jV L)) ↦[(iBlkK L).view.set]{fullShare} f : sProp 𝕄) = iLoc d ↦[iBlk (kL L)]{fullShare} f := by
  rw [set_iBlkK]
omit [FloatOps F] in
theorem pts_oBlkK (f : Buf (Elt F) (oLoc d)) :
    ((oBlkK L).view.loc (V d (cV L) (jV L)) ↦[(oBlkK L).view.set]{fullShare} f : sProp 𝕄) = oLoc d ↦[oBlk (kL L)]{fullShare} f := by
  rw [set_oBlkK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_aV (f : Buf (Elt F) ((V d (cV L) (jV L)).loc cc1_scoped0)) :
    ((aV).view.loc (V d (cV L) (jV L)) ↦{fullShare} f : sProp 𝕄) = (V d (cV L) (jV L)).loc cc1_scoped0 ↦{fullShare} f := rfl
omit [FloatOps F] in
theorem pts_bV (f : Buf (Elt F) ((V d (cV L) (jV L)).loc cc1_scoped2)) :
    ((bV).view.loc (V d (cV L) (jV L)) ↦{fullShare} f : sProp 𝕄) = (V d (cV L) (jV L)).loc cc1_scoped2 ↦{fullShare} f := rfl

/-! ## The values -/

/-- A place in the list as an index of a slot. -/
abbrev ixS (j : Fin 256) : S1x256.Idx := fun b => match b with | 0 => (0 : Fin 1) | 1 => j

omit [FloatOps F] in
/-- The list read from the slot, once words `w` have landed there, is `w`. -/
theorem list_read (f : Buf (Elt F) ((V d (cV L) (jV L)).loc cc1_scoped0)) (w : S1x256.Idx → Elt F .i32) (x : S256.Idx) :
    (aList).view.read (Elt F) (View.write (Elt F) (aSlot).view f w Finset.univ) x = w (ixS (x 0)) := by
  have hr : ∀ h : S256.numel = S1x256.numel, Shape.reshapeEquiv h x = ixS (x 0) := fun h => by
    refine Shape.reshapeEquiv_eq_of_rowMajor h ?_
    refine (Shape.rowMajor_val_two (d := ![1, 256]) (ixS (x 0))).trans ?_
    refine Eq.trans ?_ (Shape.rowMajor_val_one (d := ![256]) x).symm
    simp [ixS]
  have he : (aList).view.emb x = (aSlot).view.emb (ixS (x 0)) := by
    show (aSlot).view.emb ((Rect.unit (s := S1x256) ![0, 0] S1x256.size inb_S1x256_S1x256_0_0).emb (Shape.reshapeEquiv _ x)) = _
    rw [hr]
    refine congrArg _ (funext fun a => Fin.ext ?_)
    match a with
    | 0 => rfl
    | 1 => show 0 + 1 * _ = _; omega
  rw [View.read_apply, he]
  exact (View.read_apply _ _).symm.trans (View.read_write_of_mem (v := (aSlot).view) (Val := Elt F) f w (x := ixS (x 0)) (Finset.mem_univ _))

/-- Row `j` of block `kL L`. -/
abbrev rowAt (L : grid1.Coords) (j : Fin 256) : Fin 8192 := ⟨256 * (kL L).val + j.val, by have := (kL L).isLt; omega⟩

omit [FloatOps F] in
theorem fetched (g : Buf (Elt F) (iLoc d)) (j : Fin 256) : (iBlkK L).view.read (Elt F) g (ixS j) = g (ixI (rowAt L j)) := by
  refine (View.read_apply _ _).trans ((cast_eq _ _).trans (congrArg g (funext fun a => Fin.ext ?_)))
  show ((Rect.unit (s := S1x8192) (k1_off2 L) S1x256.size (k1_off2_inb L)).emb (ixS j) a).val = _
  match a with
  | 0 => show k1_off2 L 0 + 1 * 0 = 0; rw [k1_off2_eq]; rfl
  | 1 =>
    show k1_off2 L 1 + 1 * j.val = 256 * ((L 1).val + 16 * (L 0).val) + j.val
    rw [k1_off2_eq]
    show 256 * (L 1).val + 4096 * (L 0).val + 1 * j.val = _
    omega

omit [FloatOps F] in
theorem list_fetched (f : Buf (Elt F) ((V d (cV L) (jV L)).loc cc1_scoped0)) (g : Buf (Elt F) (iLoc d)) (x : S256.Idx) :
    (aList).view.read (Elt F) (View.write (Elt F) (aSlot).view f ((iBlkK L).view.read (Elt F) g) Finset.univ) x = g (ixI (rowAt L (x 0))) :=
  (list_read d L f _ x).trans (fetched d L g (x 0))

/-- The table as the gather reads it, whole. -/
abbrev tAll : Memref sig .scVector .hbm S8192x128 .f32 := (tV).slice (Rect.unit (s := S8192x128) ![0, 0] S8192x128.size inb_S8192x128_S8192x128_0_0) (fun _ => rfl)

omit [FloatOps F] in
theorem tAll_read (g : Buf (Elt F) (tLoc d)) : (tAll).view.read (Elt F) g = g := by
  funext x
  refine (View.read_apply _ _).trans ((cast_eq _ _).trans (congrArg g (funext fun a => Fin.ext ?_)))
  show (![0, 0] : Fin 2 → Nat) a + 1 * (x a).val = (x a).val
  match a with
  | 0 => show 0 + 1 * _ = _; omega
  | 1 => show 0 + 1 * _ = _; omega

/-- What the gather brings: row `j` of the slot is the table's row at row number `j` of the block. -/
theorem gathered (g : Buf (Elt F) (tLoc d)) (g' : S8192x128.Idx → Elt F .f32) (hg : g' = g) (w : S256.Idx → Elt F .i32) (hw : ∀ x, w x = IX d (ixI (rowAt L (x 0))))
    (hn : S256.numel = S256x128.size gathers_S8192x128_S256x128.axis')
    (hin : ∀ x, (w x : BitVec 32).toNat < S8192x128.size gathers_S8192x128_S256x128.axis) (y : S256x128.Idx) :
    SparseCore.gatherPayload (F := F) (e := .f32) gathers_S8192x128_S256x128 g' (SparseCore.rows w hn hin) y
      = gath (F := F) (e := .f32) g (IX d) ((oBlkK L).view.emb y) := by
  subst hg
  unfold SparseCore.gatherPayload gath
  refine congrArg g' (funext fun a => Fin.ext ?_)
  have hy : (oBlkK L).view.emb y 0 = rowAt L (y 0) := Fin.ext (by
    show k1_off12 L 0 + 1 * (y 0).val = 256 * ((L 1).val + 16 * (L 0).val) + (y 0).val
    rw [k1_off12_eq]
    show 256 * (L 1).val + 4096 * (L 0).val + 1 * (y 0).val = _
    omega)
  match a with
  | 0 =>
    refine (congrArg Fin.val (Shape.Gathers.idx_axis gathers_S8192x128_S256x128 _ y)).trans ?_
    have hs : (S256.rowMajor.symm ((y (gathers_S8192x128_S256x128.axis')).cast hn.symm)) 0 = y 0 := by
      have e := Shape.rowMajor_val_one (d := ![256]) (S256.rowMajor.symm ((y (gathers_S8192x128_S256x128.axis')).cast hn.symm))
      refine Fin.ext (e.symm.trans ?_)
      exact congrArg Fin.val (S256.rowMajor.apply_symm_apply _)
    show (w _ : BitVec 32).toNat = _
    have hlt := hin (S256.rowMajor.symm ((y (gathers_S8192x128_S256x128.axis')).cast hn.symm))
    rw [hw, hs] at hlt ⊢
    show _ = Fin.val (dite _ _ _)
    rw [hy]
    exact (dite_val _ hlt _).symm
  | 1 =>
    refine (Shape.Gathers.idx_of_ne gathers_S8192x128_S256x128 _ y 1 (by decide)).trans ?_
    show (y 1).val = k1_off12 L 1 + 1 * (y 1).val
    rw [k1_off12_eq]
    show _ = 0 + 1 * (y 1).val
    omega

omit [FloatOps F] in
theorem landed (f : Buf (Elt F) (oLoc d)) (p : S256x128.Idx → Elt F .f32) (y : S256x128.Idx) :
    (oBlkK L).view.writes (Elt F) f [⟨Rect.whole S256x128, p⟩] ((oBlkK L).view.emb y) = p y := by
  have hy : (Rect.whole S256x128).emb y = y := by simp
  have h := View.read_writes_cons_emb (v := (oBlkK L).view) (f := f) (Rect.whole S256x128) p [] y
  rw [hy] at h
  exact ((View.read_apply (v := (oBlkK L).view) _ _).trans (cast_eq _ _)).symm.trans h

theorem fromSlot (f : Buf (Elt F) ((V d (cV L) (jV L)).loc cc1_scoped2)) (p : S256x128.Idx → Elt F .f32) (y : S256x128.Idx) {r : Elt F .f32} (h : p y = r) :
    (bSlot).view.read (Elt F) (View.write (Elt F) (bSlot).view f p Finset.univ) y = r :=
  (congrFun (View.read_write_univ (v := (bSlot).view) (Val := Elt F) f p) y).trans h

/-! ## The task's semaphores and scratch -/

abbrev cA (d : Dev nD) (c : Fin τ.nSC) (i : Fin τ.nSub) : GSem nD τ sig := (V d c i, .dma ⟨7, by decide⟩)
abbrev cB (d : Dev nD) (c : Fin τ.nSC) (i : Fin τ.nSub) : GSem nD τ sig := (V d c i, .dma ⟨9, by decide⟩)
abbrev cC (d : Dev nD) (c : Fin τ.nSC) (i : Fin τ.nSub) : GSem nD τ sig := (V d c i, .dma ⟨11, by decide⟩)

omit [FloatOps F] in
theorem last_sem : ∀ L : grid1.Coords,
    ((cc1_scoped3.slice (Rect.unit (s := S2) (k1_off19 L) S1.size (k1_off19_inb L))).squeeze S_ squeezes_S1_S_).sem = ⟨9, by decide⟩ := by decide +kernel

omit [FloatOps F] in
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma _ : SemLoc sig).isScoped .scVector = true; decide⟩),
    SparseCore.bigSep_erase' (Finset.mem_erase.mpr ⟨by simp [cA, cB], (mem_ownCells (g := cB d (cV L) (jV L))).mpr ⟨rfl, by
      show (SemLoc.dma _ : SemLoc sig).isScoped .scVector = true; decide⟩⟩),
    SparseCore.bigSep_erase' (Finset.mem_erase.mpr ⟨by simp [cB, cC], Finset.mem_erase.mpr ⟨by simp [cA, cC],
      (mem_ownCells (g := cC d (cV L) (jV L))).mpr ⟨rfl, by show (SemLoc.dma _ : SemLoc sig).isScoped .scVector = true; decide⟩⟩⟩)]

omit [FloatOps F] in
theorem ownBufs_V :
    (ownBufs (V d (cV L) (jV L)) : sProp 𝕄)
      = iprop((∃ f, (V d (cV L) (jV L)).loc cc1_scoped0 ↦{fullShare} f) ∗ (∃ f, (V d (cV L) (jV L)).loc cc1_scoped2 ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-! ## The task -/

set_option maxHeartbeats 4000000 in
/-- The task on tile `(L 0, L 1)` of device `d`: the fetch of the row numbers and its wait, the gather and its wait,
    the write-out and its wait; the block of the result ends at the gathered rows. -/
theorem tile_body (hF : (K (F := F)).Facts) (hpre : InRows IX) (O : CellTallies nD τ sig (HIx 1)) (W : Waits sig (HIx 1)) (hO : ∀ g, O g none = 0) :
    iprop(levAts (K (F := F)).L (K (F := F)).lev ∗ emp
        ∗ (tPts TB d (kL L) ∗ iPts IX d (kL L) ∗ oPts d (kL L) (O0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tV (Memref.isWhole_whole _) iV (Memref.isWhole_whole _) oV (Memref.isWhole_whole _)
            aV (Memref.isWhole_whole _) cc1_scoped1 bV (Memref.isWhole_whole _) cc1_scoped3 cc1_scoped4)
          fun _ => iprop((tPts TB d (kL L) ∗ iPts IX d (kL L) ∗ oPts d (kL L) (gath (F := F) (e := .f32) (TB d) (IX d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hin : ∀ (f : Buf (Elt F) ((V d (cV L) (jV L)).loc cc1_scoped0)) x,
      ((aList).view.read (Elt F) (View.write (Elt F) (aSlot).view f ((iBlkK L).view.read (Elt F) (IX d)) Finset.univ) x : BitVec 32).toNat
        < S8192x128.size gathers_S8192x128_S256x128.axis := fun f x => by
    rw [list_fetched d L f (IX d) x]; exact hpre d _
  simp only [cc1_gather_kernel_eq_skeleton]; unfold cc1_gather_kernel_skel
  have c1 := cond1 L
  have c2 := cond2 L
  have c5 := cond5 L
  have c7 := cond7 L
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fa, Ha⟩, ⟨%fb, Hb⟩, Hbufs⟩, ⟨HsA, HsB, HsC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Ht' := (Entails.of_eq (pts_tV (F := F) d L _ _).symm) $$ Ht
  ihave Ha' := (Entails.of_eq (pts_aV (F := F) d L _).symm) $$ Ha
  ihave Hb' := (Entails.of_eq (pts_bV (F := F) d L _).symm) $$ Hb
  sl_exec
  rw [last_sem L]
  sl_exec
  sl_step
  isplitl [Hi' Ht' Ho']
  · isplitl [Ht']; · iexact Ht'
    isplitl [Hi']; · iapply (Entails.of_eq (pts_iBlkK (F := F) d L _)); iexact Hi'
    iapply (Entails.of_eq (pts_oBlkK (F := F) d L _))
    ihave Ho2 := (Entails.of_eq (pointsTo_congr (g := gath (F := F) (e := .f32) (TB d) (IX d)) (fun i hi => by
      obtain ⟨y, -, rfl⟩ := Finset.mem_map.mp hi
      exact (landed d L (O0 d) _ y).trans (fromSlot d L fb _ y (by
        unfold tile_body.sl.gather1
        exact gathered IX d L (TB d) _ (tAll_read d (TB d)) _ (list_fetched d L fa (IX d)) _ _ y))))) $$ Ho'
    iexact Ho2
  isplitl [Ha' Hb' Hbufs]
  · isplitl [Ha']; · iexists _; iexact Ha'
    isplitl [Hb']; · iexists _; iexact Hb'
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelTile

end
-- ==== Proof.KernelBody.lean ====
/-
  The first call of the whole kernel: per block of 256 rows, the products of the normalised rows with every
  table row, and per row the number of the largest product. The body, what it leaves, and the call as a step of
  @main from any contents of the buffers.
-/
module

public import proofs.«01_k».proof.Proof.KernelTile
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.Value

@[expose] public section

noncomputable section

namespace Cert.Proof.KernelTile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf)

variable {F : FTy → Type} [FloatOps F]

local notation "𝕄" => MT nD τ sig (HIx 1) (Elt F) ℕ UU ℕ

/-! ## The body -/

omit [FloatOps F] in
theorem owns_isWhole (c : Thread nD τ) {sp : Space} {S : Shape} {e : EltTy} (M : Memref sig c.2.kind sp S e) (h : M.IsWhole) (X : S.Idx → Elt F e) :
    (owns c M fullShare X : sProp 𝕄) = iprop(∃ f, ⌜M.view.read (Elt F) f = X⌝ ∗ (M.view.loc c ↦{fullShare} f)) := by
  unfold owns; rw [h.set_eq_univ]

omit [FloatOps F] in
theorem ld_full {S : Shape} {e : EltTy} (X : S.Idx → Elt F e) (off : Fin S.rank → Nat) (inb : ∀ a, off a + S.size a ≤ S.size a) :
    View.ld (Val := Elt F) X (Rect.unit (s := S) off S.size inb) = X := by
  funext x
  refine congrArg X (funext fun a => Fin.ext ?_)
  have := inb a
  show off a + 1 * (x a).val = (x a).val
  omega

theorem writes_full {κ : Kind} {sp : Space} {S : Shape} {e : EltTy} (v : View sig κ sp S e) (f : v.ty.Contents (Elt F)) (off : Fin S.rank → Nat) (inb : ∀ a, off a + S.size a ≤ S.size a)
    (w : S.Idx → Elt F e) : v.read (Elt F) (v.writes (Elt F) f [⟨Rect.unit (s := S) off S.size inb, w⟩]) = w := by
  have hx : ∀ y : S.Idx, (Rect.unit (s := S) off S.size inb).emb y = y := fun y => by
    funext a
    have := inb a
    apply Fin.ext
    show off a + 1 * (y a).val = (y a).val
    omega
  rw [View.read_writes_eq_canon v f _ fun y => ⟨_, List.mem_singleton.mpr rfl, by
    rw [← hx y]; exact (Rect.map_emb_univ (Rect.unit (s := S) off S.size inb)) ▸ Finset.mem_map_of_mem _ (Finset.mem_univ _)⟩]
  funext y
  conv_lhs => rw [← hx y]
  exact View.canon_cons_emb _ _ _ _

set_option maxHeartbeats 1000000 in
/-- From the four buffers held whole, the two inputs at known contents, the body runs and leaves the results at their payloads. -/
theorem bodyRun (c : Dev nD) (i : grid0.Coords)
    (M1 : Memref sig .tc .vmem S256x32 .f32) (h1 : M1.IsWhole) (M2 : Memref sig .tc .vmem S8192x32 .f32) (h2 : M2.IsWhole)
    (M3 : Memref sig .tc .vmem S256x8192 .f32) (h3 : M3.IsWhole) (M4 : Memref sig .tc .vmem S1x1x256 .i32) (h4 : M4.IsWhole)
    (X1 : S256x32.Idx → Elt F .f32) (X2 : S8192x32.Idx → Elt F .f32) (X3 : S256x8192.Idx → Elt F .f32) (X4 : S1x1x256.Idx → Elt F .i32)
    (Q : PUnit → sProp 𝕄) :
    iprop(owns (c.tc : Thread nD τ) M1 fullShare X1 ∗ owns (c.tc : Thread nD τ) M2 fullShare X2 ∗ owns (c.tc : Thread nD τ) M3 fullShare X3 ∗ owns (c.tc : Thread nD τ) M4 fullShare X4
        ∗ (iprop(owns (c.tc : Thread nD τ) M1 fullShare X1 ∗ owns (c.tc : Thread nD τ) M2 fullShare X2
            ∗ owns (c.tc : Thread nD τ) M3 fullShare (k0_pay1 X1 X2 : S256x8192.Idx → Elt F .f32) ∗ owns (c.tc : Thread nD τ) M4 fullShare (k0_pay2 X1 X2 : S1x1x256.Idx → Elt F .i32)) -∗ Q ⟨⟩))
      ⊢ wp frame (wpE (defs₀ (F := F)) Variants.none (c.tc : Thread nD τ) none) Set.univ (cc0__sim_body i M1 h1 M2 h2 M3 h3 M4 h4) Q := by
  rw [cc0__sim_body_eq_skeleton]
  rw [owns_isWhole (c.tc : Thread nD τ) M1 h1 X1, owns_isWhole (c.tc : Thread nD τ) M2 h2 X2, owns_isWhole (c.tc : Thread nD τ) M3 h3 X3, owns_isWhole (c.tc : Thread nD τ) M4 h4 X4,
    owns_isWhole (c.tc : Thread nD τ) M3 h3 _, owns_isWhole (c.tc : Thread nD τ) M4 h4 _]
  iintro ⟨⟨%f1, %e1, H1⟩, ⟨%f2, %e2, H2⟩, ⟨%f3, -, H3⟩, ⟨%f4, -, H4⟩, Hk⟩
  unfold cc0__sim_body_skel
  sl_exec!
  sl_step
  iapply Hk
  isplitl [H1]; · iexists f1; isplitr; (· ipureintro; exact e1); iexact H1
  isplitl [H2]; · iexists f2; isplitr; (· ipureintro; exact e2); iexact H2
  isplitl [H3]
  · iexists _; isplitr; swap; (· iexact H3); ipureintro
    unfold bodyRun.sl.H3_1
    refine (writes_full _ _ _ _ _).trans ?_
    rw [View.readAt_eq_ld, View.readAt_eq_ld, e1, e2]
    exact congrArg₂ k0_pay1 (ld_full X1 _ _) (ld_full X2 _ _)
  iexists _; isplitr; swap; (· iexact H4); ipureintro
  unfold bodyRun.sl.H4_1
  refine (writes_full _ _ _ _ _).trans ?_
  rw [View.readAt_eq_ld, View.readAt_eq_ld, e1, e2]
  exact congrArg₂ k0_pay2 (ld_full X1 _ _) (ld_full X2 _ _)

/-! ## The call's data, from any contents of the buffers -/

variable (V : (c : Dev nD) → (b : Ref sig .tc) → Buf (Elt F) ((c.tc : Thread nD τ).loc b))

/-- The rows and the table a point works on. -/
abbrev inX (c : Dev nD) (t : Fin cfg0.N) : S256x32.Idx → Elt F .f32 := ((cfg0.win 0).blk t).view.read (Elt F) (V c main_v1)
abbrev inE (c : Dev nD) (t : Fin cfg0.N) : S8192x32.Idx → Elt F .f32 := ((cfg0.win 1).blk t).view.read (Elt F) (V c main_v2)

/-- The (own cell, index) pairs recorded before the first SparseCore call: all at the bottom level. -/
abbrev rec0 (c : Dev nD) : Set (SemLoc sig × HIx 1) := {p | (K (F := F)).lev (T c, p.1) p.2 ≤ 8 * (SparseCore.Cfg.Blocks.fst (Q := 1) (N := 1) 0)}

def dat (c : Dev nD) : Dat τ (Elt F) (HIx 1) ℕ UU ℕ cfg0 c where
  A w := V c (Pipeline.arrRef spec0 w)
  after w t := match w with
    | ⟨0, _⟩ => inX V c t
    | ⟨1, _⟩ => inE V c t
    | ⟨2, _⟩ => k0_pay1 (inX V c t) (inE V c t)
    | ⟨3, _⟩ => k0_pay2 (inX V c t) (inE V c t)
  Φ _ := Pipeline.scopedRest (Ix := HIx 1) (Name := ℕ) (U := UU) (Lvl := ℕ) (Val := Elt F) spec0 c
  q _ := fullShare
  owed _ := (K (F := F)).Otc c 0
  recorded _ := rec0 (F := F) c

theorem before_0 (c : Dev nD) (t : Fin cfg0.N) (d : (cfg0.win 0).block.Idx → Elt F (cfg0.win 0).elt) : (dat V c).before 0 t d = inX V c t :=
  (Dat.before_in_eq_fetched (dat V c) 0 rfl (fun _ => rfl) (fun _ _ _ => rfl) (fun _ => rfl) t d).trans rfl
theorem before_1 (c : Dev nD) (t : Fin cfg0.N) (d : (cfg0.win 1).block.Idx → Elt F (cfg0.win 1).elt) : (dat V c).before 1 t d = inE V c t :=
  (Dat.before_in_eq_fetched (dat V c) 1 rfl (fun _ => rfl) (fun _ _ _ => rfl) (fun _ => rfl) t d).trans rfl

theorem body_obligation (c : Dev nD) : BodyObligation (dat V c) (defs₀ (F := F)) 𝒱₀ (none : HIx 1) Set.univ := fun t => by
  rw [bigSep_W0, bigSep_W0]
  rw [show (dat V c).Φ t.castSucc = (dat V c).Φ t.succ from rfl, show (dat V c).owesAt (none : HIx 1) t.succ = (dat V c).owesAt (none : HIx 1) t.castSucc from rfl]
  iintro ⟨HΦ, Howes, ⟨%d0, H0⟩, ⟨%d1, H1⟩, ⟨%d2, H2⟩, ⟨%d3, H3⟩⟩
  rw [before_0, before_1]
  iapply (bodyRun c (grid0.coords t) _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) (inX V c t) (inE V c t) _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The call as a step of @main -/

abbrev admP : (p : Fin 1) → (pcfgs (F := F) p).Adm := fun p => (cfgs p).toPCfg_adm

abbrev pd : (p : Fin 1) → (c : Dev nD) → Dat τ (Elt F) (HIx 1) ℕ UU ℕ (Pipeline.pin (pcfgs (F := F)) admP p) c
  | ⟨0, _⟩ => fun c => dat V c

/-- The two results after the call. -/
def distA (c : Dev nD) : Buf (Elt F) ((c.tc : Thread nD τ).loc main_v3_0) := (dat V c).arrAt 2 cfg0.N
def indA (c : Dev nD) : Buf (Elt F) ((c.tc : Thread nD τ).loc main_v3_1) := (dat V c).arrAt 3 cfg0.N

omit [FloatOps F] in
theorem Otc_none (c : Dev nD) (g : GSem nD τ sig) : (K (F := F)).Otc c 0 g none = 0 := by
  by_contra h
  have := SparseCore.Cfg.lev_of_Otc_pos (Nat.pos_of_ne_zero h)
  exact absurd this (by show ¬ _ ≤ 0; omega)

variable (Vp : (c : Dev nD) → (b : Ref sig .tc) → Buf (Elt F) ((c.tc : Thread nD τ).loc b))

/-- What the thread owes, and the bound on its recorded pairs. -/
abbrev owesTc (c : Dev nD) : sProp 𝕄 := iprop(∃ W, ⌜(K (F := F)).WBelow (T c) W (8 * (SparseCore.Cfg.Blocks.fst (Q := 1) (N := 1) 0))⌝ ∗ owes (T c) ((K (F := F)).Otc c 0) W)

set_option backward.isDefEq.respectTransparency.types false in
def reg (hd : ∀ c, Vp c main_v3_0 = distA V c) (hi : ∀ c, Vp c main_v3_1 = indA V c)
    (hne : ∀ c (b : Ref sig .tc), b ≠ main_v3_0 → b ≠ main_v3_1 → Vp c b = V c b) :
    Pipeline.RegionSeg (pcfgs (F := F)) admP (pd V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (V c) ∗ owesTc (F := F) c)
  post c := iprop(unscopedBufs c (Vp c) ∗ owesTc (F := F) c)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) admP (pd V) launch0.win launch0.arr_whole c
      ((pd V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitr; · iempintro
    iexact Hrest
  hin c := by
    rw [show (pd V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pd V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) admP (Ix := HIx 1) (Name := ℕ) (U := UU) (Lvl := ℕ) launch0.win launch0.arr_whole c
      (pd V) ((pd V 0 c).share_full fun _ => rfl) (V c) (Vp c) ((pd V 0 c).arrAt · cfg0.N)
      (fun w => by
        fin_cases w
        · exact ((pd V 0 c).arrAt_in 0 rfl _).trans (hne c main_v1 (by decide) (by decide)).symm
        · exact ((pd V 0 c).arrAt_in 1 rfl _).trans (hne c main_v2 (by decide) (by decide)).symm
        · exact (hd c).symm
        · exact (hi c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro q hq
      rcases hW hq with h | ⟨w, s, rfl⟩
      · exact h
      · exact Nat.zero_le _
    iexact HO

end Cert.Proof.KernelTile

end
-- ==== Proof.KernelLaunch.lean ====
/-
  The whole kernel's launch, and the program around its two calls. The 32 tiles' pieces of the three arrays are
  the arrays, cut; the host operations before and after the call are a fold over the device's buffers.
-/
module

public import proofs.«01_k».proof.Proof.KernelTile
public import proofs.«01_k».proof.Proof.KernelBody
public import Idealize.ShloMosaic.Lib.Pipeline.Frame

@[expose] public section

noncomputable section

namespace Cert.Proof.KernelTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held after seq launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v4_scv : Memref Cert.KernelIdeal.sig Kind.scVector Space.hbm Cert.KernelIdeal.S8192x128 EltTy.f32)
local notation "iV" => (Memref.whole Cert.KernelIdeal.main_v5_scv : Memref Cert.KernelIdeal.sig Kind.scVector Space.hbm Cert.KernelIdeal.S1x8192 EltTy.i32)
local notation "oV" => (Memref.whole Cert.KernelIdeal.main_v6_scv : Memref Cert.KernelIdeal.sig Kind.scVector Space.hbm Cert.KernelIdeal.S8192x128 EltTy.f32)
local notation "aV" => (Memref.whole Cert.KernelIdeal.cc1_scoped0 : Memref Cert.KernelIdeal.sig Kind.scVector Space.vmem Cert.KernelIdeal.S2x1x256 EltTy.i32)
local notation "bV" => (Memref.whole Cert.KernelIdeal.cc1_scoped2 : Memref Cert.KernelIdeal.sig Kind.scVector Space.vmem Cert.KernelIdeal.S2x256x128 EltTy.f32)

variable [FloatOps F]

section Call

variable (TB : (d : Dev nD) → Buf (Elt F) (tLoc d)) (IX : (d : Dev nD) → Buf (Elt F) (iLoc d)) (O0 : (d : Dev nD) → Buf (Elt F) (oLoc d))

/-! ## What the handshakes carry -/

/-- A tile's pieces before its task, and after. -/
abbrev goP (d : Dev nD) (c : Fin 2) (i : Fin 16) : sProp 𝕄 :=
  iprop(tPts TB d (blk c i) ∗ iPts IX d (blk c i) ∗ oPts d (blk c i) (O0 d))
abbrev tdP (d : Dev nD) (c : Fin 2) (i : Fin 16) : sProp 𝕄 :=
  iprop(tPts TB d (blk c i) ∗ iPts IX d (blk c i) ∗ oPts d (blk c i) (gath (F := F) (e := .f32) (TB d) (IX d)))

theorem nCore_zero : (K (F := F)).nCore 0 = 2 := rfl
theorem nSub_zero : (K (F := F)).nSub 0 = 16 := rfl

/-- A SparseCore takes its sixteen tiles' pieces and brings them back. -/
def P : (K (F := F)).Pay (nD := nD) (Val := Elt F) (Name := ℕ) (U := UU) where
  st := fun q d c => match q with | 0 => bigSep Finset.univ fun i : Fin 16 => goP TB IX O0 d (Fin.cast nCore_zero c) i
  dn := fun q d c => match q with | 0 => bigSep Finset.univ fun i : Fin 16 => tdP TB IX d (Fin.cast nCore_zero c) i
  go := fun q d c i => match q with | 0 => goP TB IX O0 d (Fin.cast nCore_zero c) (Fin.cast nSub_zero i)
  td := fun q d c i => match q with | 0 => tdP TB IX d (Fin.cast nCore_zero c) (Fin.cast nSub_zero i)
  x := fun _ _ => iprop(emp)

instance P_storable : (P (F := F) TB IX O0).IsStorable where
  st q d c := match q with
    | 0 => (inferInstance : BI.Storable (upEmb : UEmb _ 𝕄) (bigSep Finset.univ fun i : Fin 16 => goP TB IX O0 d (Fin.cast nCore_zero c) i))
  dn q d c := match q with
    | 0 => (inferInstance : BI.Storable (upEmb : UEmb _ 𝕄) (bigSep Finset.univ fun i : Fin 16 => tdP TB IX d (Fin.cast nCore_zero c) i))
  go q d c i := match q with
    | 0 => (inferInstance : BI.Storable (upEmb : UEmb _ 𝕄) (goP TB IX O0 d (Fin.cast nCore_zero c) (Fin.cast nSub_zero i)))
  td q d c i := match q with
    | 0 => (inferInstance : BI.Storable (upEmb : UEmb _ 𝕄) (tdP TB IX d (Fin.cast nCore_zero c) (Fin.cast nSub_zero i)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          aV (Memref.isWhole_whole _) cc1_scoped1 bV (Memref.isWhole_whole _) cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRows IX) : (K (F := F)).TileObl (D (F := F)) 𝒱 (P TB IX O0) v₀ 0 := by
  intro d c i O W hO _ _
  simp only [show (P TB IX O0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body TB IX O0 d (coordsV ⟨_, hci.1⟩ ⟨_, hci.2⟩) hF hpre O W hO).trans (wp_mono frame _ _ fun _ => obl_post)

theorem vecSplit : (K (F := F)).VecSplit' (P TB IX O0) 0 := by
  intro d c
  have e1 : (bigSep Finset.univ fun i : Fin ((K (F := F)).nSub 0) => goP TB IX O0 d (Fin.cast nCore_zero c) (Fin.cast nSub_zero i))
      = bigSep Finset.univ fun i : Fin 16 => goP TB IX O0 d (Fin.cast nCore_zero c) i := bigSep_congr fun _ _ => rfl
  have e2 : (bigSep Finset.univ fun i : Fin ((K (F := F)).nSub 0) => tdP TB IX d (Fin.cast nCore_zero c) (Fin.cast nSub_zero i))
      = bigSep Finset.univ fun i : Fin 16 => tdP TB IX d (Fin.cast nCore_zero c) i := bigSep_congr fun _ _ => rfl
  show (bigSep Finset.univ fun i : Fin 16 => goP TB IX O0 d (Fin.cast nCore_zero c) i) ⊢ |={Set.univ}=> iprop(
      (bigSep Finset.univ fun i : Fin ((K (F := F)).nSub 0) => goP TB IX O0 d (Fin.cast nCore_zero c) (Fin.cast nSub_zero i))
      ∗ ((bigSep Finset.univ fun i : Fin ((K (F := F)).nSub 0) => tdP TB IX d (Fin.cast nCore_zero c) (Fin.cast nSub_zero i))
          -∗ bigSep Finset.univ fun i : Fin 16 => tdP TB IX d (Fin.cast nCore_zero c) i))
  rw [e1, e2]
  iintro H; imodintro
  isplitl [H]; · iexact H
  iintro H; iexact H

/-! ## The pieces are the arrays -/

/-- A tile's block, counted over cores and tiles. -/
def blkEquiv : Fin 2 × Fin 16 ≃ Fin 32 := finProdFinEquiv

omit [FloatOps F] in
theorem bigSep_blk (Φ : Fin 32 → sProp 𝕄) :
    bigSep Finset.univ Φ = bigSep Finset.univ fun c : Fin 2 => bigSep Finset.univ fun i : Fin 16 => Φ (blk c i) := by
  rw [bigSep_univ_equiv blkEquiv, bigSep_univ_prod]
  rfl

omit [FloatOps F] in
theorem t_cut (d : Dev nD) (f : Buf (Elt F) (tLoc d)) :
    (tLoc d ↦{fullShare} f : sProp 𝕄) = bigSep Finset.univ fun k : Fin 32 => tLoc d ↦{tq k} f :=
  pointsTo_piecesOf Finset.univ f (by decide) fullShare
omit [FloatOps F] in
theorem i_cut (d : Dev nD) (f : Buf (Elt F) (iLoc d)) :
    (iLoc d ↦{fullShare} f : sProp 𝕄) = bigSep Finset.univ fun k : Fin 32 => iLoc d ↦[iBlk k]{fullShare} f := by
  rw [← pointsTo_biUnion Finset.univ (ℓ := iLoc d) iBlk (fun _ _ _ _ h => Rect.part_disjoint idiv h), Rect.biUnion_part idiv]; try rfl
omit [FloatOps F] in
theorem o_cut (d : Dev nD) (f : Buf (Elt F) (oLoc d)) :
    (oLoc d ↦{fullShare} f : sProp 𝕄) = bigSep Finset.univ fun k : Fin 32 => oLoc d ↦[oBlk k]{fullShare} f := by
  rw [← pointsTo_biUnion Finset.univ (ℓ := oLoc d) oBlk (fun _ _ _ _ h => Rect.part_disjoint odiv h), Rect.biUnion_part odiv]; try rfl

theorem st_eq (d : Dev nD) : (bigSep Finset.univ fun c : Fin ((K (F := F)).nCore 0) => (P TB IX O0).st 0 d c)
    = iprop((tLoc d ↦{fullShare} TB d) ∗ (iLoc d ↦{fullShare} IX d) ∗ oLoc d ↦{fullShare} O0 d) := by
  rw [t_cut, i_cut, o_cut, ← bigSep_sep', ← bigSep_sep', bigSep_blk]
  exact bigSep_congr fun _ _ => rfl
theorem dn_eq (d : Dev nD) : (bigSep Finset.univ fun c : Fin ((K (F := F)).nCore 0) => (P TB IX O0).dn 0 d c)
    = iprop((tLoc d ↦{fullShare} TB d) ∗ (iLoc d ↦{fullShare} IX d) ∗ oLoc d ↦{fullShare} gath (F := F) (e := .f32) (TB d) (IX d)) := by
  rw [t_cut, i_cut, o_cut, ← bigSep_sep', ← bigSep_sep', bigSep_blk]
  exact bigSep_congr fun _ _ => rfl

/-! ## The launch element of the ghost state -/

omit [FloatOps F] in
theorem bigSep_emp' {I : Type} (s : Finset I) : (bigSep s fun _ => iprop(emp)) = (iprop(emp) : sProp 𝕄) := bigSep_emp_const s

/-- The first call's part of the ghost state. -/
abbrev EP : Emb UP (MT nD τ sig (HIx 1) (Elt F) ℕ UU ℕ) := (Emb.inl : Emb UP (UP × Counters)).trans embR

instance EP_lands : (EP (F := F)).LandsIn (upEmb : UEmb _ 𝕄) := by unfold EP; infer_instance

theorem pin_inj : Function.Injective (Pipeline.cellOf (nD := nD) (τ := τ) (Pipeline.pin (pcfgs (F := F)) admP)) := cellOf_inj

abbrev uP : UP := initOf (Pipeline.cells (Pipeline.pin (pcfgs (F := F)) admP) (pin_inj (F := F))) (Pipeline.launchToks (Pipeline.pin (pcfgs (F := F)) admP) (pin_inj (F := F)))

def u₀ : UU := (initOf (K (F := F)).hsCells (K (F := F)).hsToks, (uP (F := F), 1))

/-- What the launch deals a device for its first call. -/
abbrev GP (d : Dev nD) : sProp 𝕄 :=
  iprop(Pipeline.cellsGhost (Pipeline.pin (pcfgs (F := F)) admP) EP 0 d ∗ Pipeline.toksInit (Pipeline.pin (pcfgs (F := F)) admP) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P TB IX O0).x q thr) := by
  unfold u₀
  iintro Hu
  ihave H := (ownU_pair (initOf (K (F := F)).hsCells (K (F := F)).hsToks) ((uP (F := F), 1) : UP × Counters)) $$ Hu
  icases H with ⟨HH, HR⟩
  ihave H := (own_pair_emb embR (uP (F := F)) (1 : Counters)) $$ HR
  icases H with ⟨HP, -⟩
  imod (Pipeline.fund_ghost (Pipeline.pin (pcfgs (F := F)) admP) EP (pin_inj (F := F))) $$ HP with ⟨Hc, Ht⟩
  imodintro
  isplitl [HH]; · iexact HH
  isplitl [Hc Ht]
  · rw [bigSep_sep']
    have e1 : (bigSep Finset.univ fun c : Dev nD => bigSep Finset.univ fun p : Fin 1 => Pipeline.cellsGhost (Pipeline.pin (pcfgs (F := F)) admP) EP p c)
        = (bigSep Finset.univ fun c : Dev nD => Pipeline.cellsGhost (Pipeline.pin (pcfgs (F := F)) admP) EP 0 c : sProp 𝕄) :=
      bigSep_congr fun _ _ => bigSep_univ_of_subsingleton (0 : Fin 1)
    have e2 : (bigSep Finset.univ fun c : Dev nD => bigSep Finset.univ fun p : Fin 1 => Pipeline.toksInit (Pipeline.pin (pcfgs (F := F)) admP) EP p c)
        = (bigSep Finset.univ fun c : Dev nD => Pipeline.toksInit (Pipeline.pin (pcfgs (F := F)) admP) EP 0 c : sProp 𝕄) :=
      bigSep_congr fun _ _ => bigSep_univ_of_subsingleton (0 : Fin 1)
    isplitl [Hc]
    · iapply (Entails.of_eq e1); iexact Hc
    · iapply (Entails.of_eq e2); iexact Ht
  rw [show (bigSep Finset.univ fun thr : Thread nD τ => bigSep Finset.univ fun q : Fin 1 => (P (F := F) TB IX O0).x q thr) = bigSep Finset.univ fun _ => iprop(emp) from
    bigSep_congr fun _ _ => bigSep_univ_of_subsingleton (0 : Fin 1), bigSep_emp']
  iempintro

end Call

/-! ## @main -/

section Main

abbrev tR : DevRef τ sig := Proc.devRef .tc main_v4
abbrev iR : DevRef τ sig := Proc.devRef .tc main_v5
abbrev oR : DevRef τ sig := Proc.devRef .tc main_v6

/-- The host operations before the first call, between the two, and after the second. -/
def ops0 : List (HloOp τ sig (Elt F)) :=
  [StableHlo.reshape main_arg0 main_v1 (rfl : (.f32 : EltTy) = .f32) shapeCasts_S8x1024x32_S8192x32,
   StableHlo.reshape main_arg1 main_v2 (rfl : (.f32 : EltTy) = .f32) shapeCasts_S1x8192x32_S8192x32]
def opsA : List (HloOp τ sig (Elt F)) :=
  [StableHlo.nullary main_c (constantI S_ 32 0#32),
   StableHlo.TRef.unary (StableHlo.TRef.of main_c : StableHlo.TRef sig ⟨S_, .i32⟩) main_call0.v0 (sitofp .f32),
   StableHlo.TRef.binary (StableHlo.TRef.of main_v2 : StableHlo.TRef sig ⟨S8192x32, .f32⟩) main_call0.v0 main_call0.v1 (fun x v => pad S8192x128 ![0, 0] ![0, 96] ![0, 0] x v pads_S8192x32_S8192x128_000_0960 h_S_),
   StableHlo.reshape main_v3_1 main_v5 (rfl : (.i32 : EltTy) = .i32) shapeCasts_S32x1x256_S1x8192]
def opsB : List (HloOp τ sig (Elt F)) :=
  [StableHlo.unary main_v6 main_v7 ((extractStridedSlice S8192x32 ![0, 0] · slices_S8192x128_S8192x32_0_0) : (⟨S8192x128, .f32⟩ : BufTy).Contents (Elt F) → (⟨S8192x32, .f32⟩ : BufTy).Contents (Elt F)),
   StableHlo.reshape main_v7 main_v8 (rfl : (.f32 : EltTy) = .f32) shapeCasts_S8192x32_S8x1024x32,
   StableHlo.reshape main_v3_1 main_v9 (rfl : (.i32 : EltTy) = .i32) shapeCasts_S32x1x256_S8x1024,
   StableHlo.reshape main_v3_0 main_v10 (rfl : (.f32 : EltTy) = .f32) shapeCasts_S8192x8192_S8x1024x8192]

/-- The first call, in the signature of the calls' own programs. -/
abbrev callP : Prog (TpuEff nD τ sig (Elt F) (ΛP (F := F)) .tc) PUnit := .op (.customCall (Pipeline.entry 0) ()) fun _ => .ret ⟨⟩

theorem main_eq (d : Dev nD) : main (F := F) d = (seq ops0 >>= fun _ => (SparseCore.liftProg (callP (F := F)) >>= fun _ =>
    (seq opsA >>= fun _ => (sc.run d 0 >>= fun _ => (seq opsB >>= fun _ => pure ⟨⟩))))) := rfl

theorem ops0_sub : ∀ op ∈ ops0 (F := F), op.bufs ⊆ Pipeline.ucRefs τ sig :=
  List.forall_mem_cons.mpr ⟨Pipeline.sub_ucRefs _ (StableHlo.reshape_bufs_sub _ _ _ _ _ _), List.forall_mem_cons.mpr ⟨Pipeline.sub_ucRefs _ (StableHlo.reshape_bufs_sub _ _ _ _ _ _), List.forall_mem_nil _⟩⟩
theorem ops0_fresh : ∀ op ∈ ops0 (F := F), op.fresh = ∅ :=
  List.forall_mem_cons.mpr ⟨rfl, List.forall_mem_cons.mpr ⟨rfl, List.forall_mem_nil _⟩⟩
theorem opsA_sub : ∀ op ∈ opsA (F := F), op.bufs ⊆ Pipeline.ucRefs τ sig :=
  List.forall_mem_cons.mpr ⟨Pipeline.sub_ucRefs _ (StableHlo.nullary_bufs_sub _ _ _), List.forall_mem_cons.mpr ⟨Pipeline.sub_ucRefs _ (StableHlo.unary_bufs_sub _ _ _ _ _),
    List.forall_mem_cons.mpr ⟨Pipeline.sub_ucRefs _ (StableHlo.binary_bufs_sub _ _ _ _ _ _ _), List.forall_mem_cons.mpr ⟨Pipeline.sub_ucRefs _ (StableHlo.reshape_bufs_sub _ _ _ _ _ _),
      List.forall_mem_nil _⟩⟩⟩⟩
theorem opsA_fresh : ∀ op ∈ opsA (F := F), op.fresh = ∅ :=
  List.forall_mem_cons.mpr ⟨rfl, List.forall_mem_cons.mpr ⟨rfl, List.forall_mem_cons.mpr ⟨rfl, List.forall_mem_cons.mpr ⟨rfl, List.forall_mem_nil _⟩⟩⟩⟩
theorem opsB_sub : ∀ op ∈ opsB (F := F), op.bufs ⊆ Pipeline.ucRefs τ sig :=
  List.forall_mem_cons.mpr ⟨Pipeline.sub_ucRefs _ (StableHlo.unary_bufs_sub _ _ _ _ _), List.forall_mem_cons.mpr ⟨Pipeline.sub_ucRefs _ (StableHlo.reshape_bufs_sub _ _ _ _ _ _),
    List.forall_mem_cons.mpr ⟨Pipeline.sub_ucRefs _ (StableHlo.reshape_bufs_sub _ _ _ _ _ _), List.forall_mem_cons.mpr ⟨Pipeline.sub_ucRefs _ (StableHlo.reshape_bufs_sub _ _ _ _ _ _),
      List.forall_mem_nil _⟩⟩⟩⟩
theorem opsB_fresh : ∀ op ∈ opsB (F := F), op.fresh = ∅ :=
  List.forall_mem_cons.mpr ⟨rfl, List.forall_mem_cons.mpr ⟨rfl, List.forall_mem_cons.mpr ⟨rfl, List.forall_mem_cons.mpr ⟨rfl, List.forall_mem_nil _⟩⟩⟩⟩

variable (m : (ℓ : Loc nD τ sig) → Buf (Elt F) ℓ) (ρ : Dev nD → PrngReg)

abbrev dR : DevRef τ sig := Proc.devRef .tc main_v3_0
abbrev aR : DevRef τ sig := Proc.devRef .tc main_v3_1

/-- The device's buffers when the first call begins, and when it has ended. -/
def V0 (d : Dev nD) : Valuation τ sig (Elt F) := after ops0 (launchContents m d)
abbrev V0c (d : Dev nD) (b : Ref sig .tc) : Buf (Elt F) ((d.tc : Thread nD τ).loc b) := V0 m d (Proc.devRef .tc b)
def V1 (d : Dev nD) : Valuation τ sig (Elt F) := Function.update (Function.update (V0 m d) dR (distA (V0c m) d)) aR (indA (V0c m) d)
abbrev V1c (d : Dev nD) (b : Ref sig .tc) : Buf (Elt F) ((d.tc : Thread nD τ).loc b) := V1 m d (Proc.devRef .tc b)

theorem V1_d (d : Dev nD) : V1c m d main_v3_0 = distA (V0c m) d :=
  (Function.update_of_ne (StableHlo.devRef_ne_of_ne (by decide)) _ _).trans (Function.update_self _ _ _)
theorem V1_a (d : Dev nD) : V1c m d main_v3_1 = indA (V0c m) d := Function.update_self _ _ _
theorem V1_ne (d : Dev nD) (b : Ref sig .tc) (h0 : b ≠ main_v3_0) (h1 : b ≠ main_v3_1) : V1c m d b = V0c m d b :=
  (Function.update_of_ne (StableHlo.devRef_ne_of_ne h1) _ _).trans (Function.update_of_ne (StableHlo.devRef_ne_of_ne h0) _ _)

/-- The buffers when the second call begins, when it has ended, and at the end. -/
def VA (d : Dev nD) : Valuation τ sig (Elt F) := after opsA (V1 m d)
def TB (d : Dev nD) : Buf (Elt F) (tLoc d) := VA m d tR
def IX (d : Dev nD) : Buf (Elt F) (iLoc d) := VA m d iR
def O0 (d : Dev nD) : Buf (Elt F) (oLoc d) := VA m d oR
def VC (d : Dev nD) : Valuation τ sig (Elt F) := Function.update (VA m d) oR (gath (F := F) (e := .f32) (TB m d) (IX m d))
def VB (d : Dev nD) : Valuation τ sig (Elt F) := after opsB (VC m d)

omit [FloatOps F] in
theorem held_three (d : Dev nD) (W : Valuation τ sig (Elt F)) :
    (held (SparseCore.T d) (Pipeline.ucRefs τ sig) W : sProp 𝕄)
      = iprop((tLoc d ↦{fullShare} W tR) ∗ (iLoc d ↦{fullShare} W iR) ∗ (oLoc d ↦{fullShare} W oR)
          ∗ held (SparseCore.T d) ((((Pipeline.ucRefs τ sig).erase tR).erase iR).erase oR) W) := by
  have ht : tR ∈ Pipeline.ucRefs τ sig := Finset.mem_filter.mpr ⟨StableHlo.devRef_mem_tcRefs _, by decide⟩
  have hi : iR ∈ (Pipeline.ucRefs τ sig).erase tR :=
    Finset.mem_erase.mpr ⟨StableHlo.devRef_ne_of_ne (by decide), Finset.mem_filter.mpr ⟨StableHlo.devRef_mem_tcRefs _, by decide⟩⟩
  have ho : oR ∈ ((Pipeline.ucRefs τ sig).erase tR).erase iR :=
    Finset.mem_erase.mpr ⟨StableHlo.devRef_ne_of_ne (by decide), Finset.mem_erase.mpr ⟨StableHlo.devRef_ne_of_ne (by decide),
      Finset.mem_filter.mpr ⟨StableHlo.devRef_mem_tcRefs _, by decide⟩⟩⟩
  unfold StableHlo.held
  rw [SparseCore.bigSep_erase' ht, SparseCore.bigSep_erase' hi, SparseCore.bigSep_erase' ho]

theorem held_VA (d : Dev nD) : (held (SparseCore.T d) (Pipeline.ucRefs τ sig) (VA m d) : sProp 𝕄)
      = iprop((tLoc d ↦{fullShare} TB m d) ∗ (iLoc d ↦{fullShare} IX m d) ∗ (oLoc d ↦{fullShare} O0 m d)
          ∗ held (SparseCore.T d) ((((Pipeline.ucRefs τ sig).erase tR).erase iR).erase oR) (VA m d)) := held_three d _

theorem held_VC (d : Dev nD) : (held (SparseCore.T d) (Pipeline.ucRefs τ sig) (VC m d) : sProp 𝕄)
      = iprop((tLoc d ↦{fullShare} TB m d) ∗ (iLoc d ↦{fullShare} IX m d) ∗ (oLoc d ↦{fullShare} gath (F := F) (e := .f32) (TB m d) (IX m d))
          ∗ held (SparseCore.T d) ((((Pipeline.ucRefs τ sig).erase tR).erase iR).erase oR) (VA m d)) := by
  have e1 : VC m d tR = TB m d := Function.update_of_ne (StableHlo.devRef_ne_of_ne (by decide)) _ _
  have e2 : VC m d iR = IX m d := Function.update_of_ne (StableHlo.devRef_ne_of_ne (by decide)) _ _
  have e3 : VC m d oR = gath (F := F) (e := .f32) (TB m d) (IX m d) := Function.update_self _ _ _
  have e4 : (held (SparseCore.T d) ((((Pipeline.ucRefs τ sig).erase tR).erase iR).erase oR) (VC m d) : sProp 𝕄)
      = held (SparseCore.T d) ((((Pipeline.ucRefs τ sig).erase tR).erase iR).erase oR) (VA m d) := by
    unfold StableHlo.held
    refine bigSep_congr fun b hb => ?_
    rw [show VC m d b = VA m d b from Function.update_of_ne (Finset.ne_of_mem_erase hb) _ _]
  rw [held_three, e1, e2, e3, e4]

abbrev FIN (d : Dev nD) : sProp 𝕄 := held (SparseCore.T d) (Pipeline.ucRefs τ sig) (VB m d)

/-- The part of the thread's state the first call does not touch. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last q)) 1)))

omit [FloatOps F] in
theorem tcSt_split (d : Dev nD) : ((K (F := F)).tcSt EH d 0 : sProp 𝕄) = iprop(owesTc (F := F) d ∗ tcRest (F := F) d) := rfl

theorem hmain (κ : GSem nD τ sig → ℕ) (d : Dev nD) :
    iprop((K (F := F)).ctx EH (P (TB m) (IX m) (O0 m)) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (launchContents m d)
    from Pipeline.unscopedBufs_held d (launchContents m d)]
  iintro ⟨#Hctx, Hst, ⟨Hb, Hh, Hts, -⟩, ⟨Hcg, Htk⟩⟩
  iapply (StableHlo.wp_seq 𝒱 none Set.univ d (Pipeline.ucRefs τ sig) _ ops0 ops0_sub ops0_fresh (launchContents m d)) $$ [Hb Hh]
  · isplitl [Hb]; · iexact Hb
    iexact Hh
  iintro ⟨Hb, Hh⟩
  rw [show after ops0 (launchContents m d) = V0 m d from rfl]
  rw [wp_bind]
  iapply ((K (F := F)).wp_liftProg (D (F := F)) 𝒱 (SparseCore.T d) Set.univ none)
  ihave Hh := (Entails.of_eq (Pipeline.unscopedBufs_held d (V0 m d)).symm) $$ Hh
  ihave Hst := (Entails.of_eq (tcSt_split (F := F) d)) $$ Hst
  icases Hst with ⟨HO, Hst⟩
  iapply (Pipeline.RegionSeg.wp (pcfgs (F := F)) admP (pd (V0c m)) (none : HIx 1) (pin_inj (F := F)) EP defs₀ 𝒱₀ (K (F := F)).L (K (F := F)).lev
    (reg (V0c m) (V1c m) (V1_d m) (V1_a m) (V1_ne m)) d none (fun _ h => nomatch h))
  rw [show (reg (V0c m) (V1c m) (V1_d m) (V1_a m) (V1_ne m)).pre d = iprop(unscopedBufs d (V0c m d) ∗ owesTc (F := F) d) from rfl,
    show (reg (V0c m) (V1c m) (V1_d m) (V1_a m) (V1_ne m)).post d = iprop(unscopedBufs d (V1c m d) ∗ owesTc (F := F) d) from rfl]
  isplitl [Hst Hts]; swap
  · isplitl [Hb]; · iexact Hb
    isplitl [HO Hh]
    · isplitl [Hh]; · iexact Hh
      iexact HO
    isplitr; · iapply (SparseCore.Cfg.ctx_levAts); iexact Hctx
    isplitl [Hcg] <;> iassumption
  iintro ⟨Hb, ⟨Hh, HO⟩⟩
  rw [wp_ret]; imodintro
  ihave Hh := (Entails.of_eq (Pipeline.unscopedBufs_held d (V1 m d))) $$ Hh
  ihave Hst := (Entails.of_eq (tcSt_split (F := F) d).symm) $$ [HO Hst]
  · isplitl [HO] <;> iassumption
  iapply (StableHlo.wp_seq 𝒱 none Set.univ d (Pipeline.ucRefs τ sig) _ opsA opsA_sub opsA_fresh (V1 m d)) $$ [Hb Hh]
  · isplitl [Hb]; · iexact Hb
    iexact Hh
  iintro ⟨Hb, Hh⟩
  rw [show after opsA (V1 m d) = VA m d from rfl]
  ihave Hh' := (Entails.of_eq (held_VA m d)) $$ Hh
  icases Hh' with ⟨Ht, Hi, Ho, Hrest⟩
  rw [wp_bind]
  iapply ((K (F := F)).wp_run (D (F := F)) 𝒱 (EH := EH) (P := P (TB m) (IX m) (O0 m)) κ d 0) $$ [Hst Ht Hi Ho Hrest Hb Hts]
  isplitr; · iexact Hctx
  isplitl [Hst]; · iexact Hst
  isplitl [Ht Hi Ho]
  · rw [st_eq]
    isplitl [Ht]; · iexact Ht
    isplitl [Hi]; · iexact Hi
    iexact Ho
  iintro ⟨Hst, Hdn⟩
  ihave Hdn' := (Entails.of_eq (dn_eq (TB m) (IX m) (O0 m) d)) $$ Hdn
  icases Hdn' with ⟨Ht, Hi, Ho⟩
  ihave Hh := (Entails.of_eq (held_VC m d).symm) $$ [Ht Hi Ho Hrest]
  · isplitl [Ht]; · iexact Ht
    isplitl [Hi]; · iexact Hi
    isplitl [Ho]; · iexact Ho
    iexact Hrest
  iapply (StableHlo.wp_seq 𝒱 none Set.univ d (Pipeline.ucRefs τ sig) _ opsB opsB_sub opsB_fresh (VC m d)) $$ [Hb Hh]
  · isplitl [Hb]; · iexact Hb
    iexact Hh
  iintro ⟨Hb, Hh⟩
  rw [wp_pure]; imodintro
  isplitl [Hst]; · iexact Hst
  isplitr [Hb Hts]; · iexact Hh
  isplitl [Hb] <;> iassumption

def fq (d : Dev nD) (s' : Phys nD τ sig (Elt F)) : Prop := ∀ b ∈ Pipeline.ucRefs τ sig, s'.mem.mem (d, b) = VB m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- Every buffer at the end, and every counter at zero. -/
def QC : PUnit × MemSt nD τ sig (Elt F) → Prop := fun r =>
  (∀ (d : Dev nD), ∀ b ∈ Pipeline.ucRefs τ sig, r.2.mem (d, b) = VB m d b) ∧ r.2.sem = fun _ => 0

/-- From any launch memory whose row numbers are in range: the program runs, every buffer ends as the fold says, and
    every semaphore counter ends at zero. -/
theorem run_all [∀ e, Nonempty (Elt F e)] (hpre : InRows (IX m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (TB m) (IX m) (O0 m)) (A := ∅) facts v₀
    (fun q hq => match q with | 0 => nomatch hq)
    (fun q _ => match q with | 0 => tileObl (TB m) (IX m) (O0 m) facts hpre)
    (fun q _ => match q with | 0 => SparseCore.Cfg.VecSplit.of_plain (vecSplit (TB m) (IX m) (O0 m)))
    m ρ main (fun d => GP (F := F) d) (FIN m) (u₀ (F := F)) (sep_elim_left.trans (hu₀ (TB m) (IX m) (O0 m))) (hmain m ρ) (fq m) (hfin m) (QC m) (fun _ h hz => ⟨h, hz⟩)

end Main

end Cert.Proof.KernelTile

end
-- ==== Proof.ArgMax.lean ====
/-
  The position of the greatest entry, over the reals: what the reduction to an index returns, and what the plain
  program's two-operand reduction returns, is in both cases the first position holding the greatest entry.
-/
module

public import proofs.«01_k».proof.Defs
public import Idealize.ShloMosaic.PureOps.Ideal.Laws
public import Idealize.ShloMosaic.PureOps.Reduce

@[expose] public section

noncomputable section

namespace Cert.Proof.ArgMax

open Idealize.ShloMosaic

/-- `c` is the first position at which `f` takes its greatest value. -/
def First {n : Nat} (f : Fin n → EReal) (c : Nat) : Prop :=
  ∃ h : c < n, (∀ k, f k ≤ f ⟨c, h⟩) ∧ ∀ k : Fin n, k.val < c → f k < f ⟨c, h⟩

theorem First.lt {n : Nat} {f : Fin n → EReal} {c : Nat} (h : First f c) : c < n := h.1

theorem First.unique {n : Nat} {f : Fin n → EReal} {c d : Nat} (hc : First f c) (hd : First f d) : c = d := by
  obtain ⟨c1, c2, c3⟩ := hc
  obtain ⟨d1, d2, d3⟩ := hd
  rcases lt_trichotomy c d with h | h | h
  · exact absurd (d3 ⟨c, c1⟩ h) (not_lt.mpr (c2 _))
  · exact h
  · exact absurd (c3 ⟨d, d1⟩ h) (not_lt.mpr (d2 _))

theorem lift_self {s t : Shape} {a : Fin s.rank} (h : s.Reduces [a] t) (j : t.Idx) (k : Fin (s.size a)) :
    h.lift j k a = k := Fin.ext (by rw [h.lift_val]; simp [Shape.Reduces.liftVal])

/-- The reduction to an index returns the first position of the greatest entry. -/
theorem reduceIndex_first {s t : Shape} {a : Fin s.rank} (h : s.Reduces [a] t) (x : s.Idx → EReal) (j : t.Idx)
    (h0 : 0 < s.size a) (h1 : s.size a ≤ 2 ^ 31) :
    First (fun k => x (h.lift j k)) (Ideal.reduceIndex .argMax a h x j).toNat := by
  classical
  obtain ⟨kM, hM⟩ : ∃ kM : Fin (s.size a), ∀ k, x (h.lift j k) ≤ x (h.lift j kM) := by
    haveI : Nonempty (Fin (s.size a)) := ⟨⟨0, h0⟩⟩
    exact Finite.exists_max fun k => x (h.lift j k)
  have hmem : ∀ i : s.Idx, i ∈ Finset.univ.filter (fun i : s.Idx => h.drop i = j) ↔ ∃ k, h.lift j k = i := by
    intro i
    constructor
    · intro hi
      have e := (Finset.mem_filter.1 hi).2
      exact ⟨i a, by rw [← e]; exact h.lift_drop i⟩
    · rintro ⟨k, rfl⟩
      exact Finset.mem_filter.2 ⟨Finset.mem_univ _, h.drop_lift j k⟩
  set E : Finset ℕ := ((Finset.univ.filter (fun i : s.Idx => h.drop i = j)).filter
    (fun i => ∀ i' ∈ Finset.univ.filter (fun i : s.Idx => h.drop i = j), ¬ x i < x i')).image (fun i => (i a).val) with hE
  have key : ∀ c : ℕ, c ∈ E ↔ ∃ hc : c < s.size a, ∀ k, x (h.lift j k) ≤ x (h.lift j ⟨c, hc⟩) := by
    intro c
    rw [hE, Finset.mem_image]
    constructor
    · rintro ⟨i, hi, rfl⟩
      obtain ⟨hi1, hi2⟩ := Finset.mem_filter.1 hi
      obtain ⟨k0, rfl⟩ := (hmem i).1 hi1
      rw [lift_self]
      exact ⟨k0.isLt, fun k => not_lt.1 (hi2 _ ((hmem _).2 ⟨k, rfl⟩))⟩
    · rintro ⟨hc, hk⟩
      refine ⟨h.lift j ⟨c, hc⟩, Finset.mem_filter.2 ⟨(hmem _).2 ⟨_, rfl⟩, fun i' hi' => ?_⟩, by rw [lift_self]⟩
      obtain ⟨k, rfl⟩ := (hmem i').1 hi'
      exact not_lt.2 (hk k)
  have hne : E.Nonempty := ⟨kM.val, (key _).2 ⟨kM.isLt, hM⟩⟩
  obtain ⟨m, hm⟩ := Finset.min_of_nonempty hne
  have hmE : m ∈ E := Finset.mem_of_min hm
  obtain ⟨hml, hmx⟩ := (key m).1 hmE
  have hval : Ideal.reduceIndex .argMax a h x j = BitVec.ofNat 32 m := by
    have e : Ideal.reduceIndex .argMax a h x j = BitVec.ofNat 32 (E.min.getD 0) := by
      simp only [Ideal.reduceIndex, if_true, hE]
    rw [e, hm]; rfl
  rw [hval, BitVec.toNat_ofNat, Nat.mod_eq_of_lt (by omega)]
  refine ⟨hml, hmx, fun k hk => lt_of_not_ge fun hge => ?_⟩
  have : k.val ∈ E := (key _).2 ⟨k.isLt, fun k' => (hmx k').trans hge⟩
  exact absurd (Finset.min_le_of_eq this hm) (by omega)

/-! ## The plain program's reduction -/

open Cert.ReferenceIdeal in
/-- The body keeps the left pair when its value is greater, or equal with the lesser position. -/
theorem red_eq (p q : EReal × BitVec 32) :
    reducer_argmax_f32_i32 (F := Ideal) p q = if q.1 < p.1 ∨ (p.1 = q.1 ∧ p.2.toInt < q.2.toInt) then p else q := by
  obtain ⟨a, i⟩ := p
  obtain ⟨b, k⟩ := q
  have hs : IntOp.cmpi .slt i k = BitVec.ofBool (decide (i.toInt < k.toInt)) := by
    simp [IntOp.cmpi, BitVec.slt_eq_decide]
  simp only [reducer_argmax_f32_i32, Ideal.cmpf_def, Ideal.cmp, hs, Scalar.select]
  rcases lt_trichotomy a b with h | h | h
  · simp [h.not_gt, h.ne, IntOp.ori, IntOp.andi]
  · subst h
    by_cases hik : i.toInt < k.toInt
    · simp [hik, IntOp.ori, IntOp.andi]
    · simp [hik, IntOp.ori, IntOp.andi]
  · simp [h, h.ne', IntOp.ori, IntOp.andi]

/-- `p` comes before `q`: greater, or equal with a position not greater. -/
def Le (p q : EReal × BitVec 32) : Prop := q.1 < p.1 ∨ (p.1 = q.1 ∧ p.2.toInt ≤ q.2.toInt)

theorem Le.refl (p : EReal × BitVec 32) : Le p p := .inr ⟨rfl, le_refl _⟩
theorem Le.trans {p q r : EReal × BitVec 32} (h : Le p q) (h' : Le q r) : Le p r := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

open Cert.ReferenceIdeal in
theorem red_spec (p q : EReal × BitVec 32) :
    (reducer_argmax_f32_i32 (F := Ideal) p q = p ∨ reducer_argmax_f32_i32 (F := Ideal) p q = q)
      ∧ Le (reducer_argmax_f32_i32 (F := Ideal) p q) p ∧ Le (reducer_argmax_f32_i32 (F := Ideal) p q) q := by
  rw [red_eq]
  split
  · next h =>
    refine ⟨.inl rfl, Le.refl _, ?_⟩
    rcases h with h | ⟨h, hi⟩
    · exact .inl h
    · exact .inr ⟨h, hi.le⟩
  · next h =>
    rw [not_or, not_and, not_lt, not_lt] at h
    refine ⟨.inr rfl, ?_, Le.refl _⟩
    rcases lt_or_eq_of_le h.1 with h' | h'
    · exact .inl h'
    · exact .inr ⟨h'.symm, h.2 h'⟩

open Cert.ReferenceIdeal in
theorem fold_spec (L : List (EReal × BitVec 32)) (init : EReal × BitVec 32) :
    (L.foldl (reducer_argmax_f32_i32 (F := Ideal)) init = init ∨ L.foldl (reducer_argmax_f32_i32 (F := Ideal)) init ∈ L)
      ∧ Le (L.foldl (reducer_argmax_f32_i32 (F := Ideal)) init) init
      ∧ ∀ q ∈ L, Le (L.foldl (reducer_argmax_f32_i32 (F := Ideal)) init) q := by
  induction L generalizing init with
  | nil => exact ⟨.inl rfl, Le.refl _, fun q hq => absurd hq (List.not_mem_nil)⟩
  | cons a L ih =>
    obtain ⟨i1, i2, i3⟩ := ih (reducer_argmax_f32_i32 (F := Ideal) init a)
    obtain ⟨r1, r2, r3⟩ := red_spec init a
    rw [List.foldl_cons]
    refine ⟨?_, i2.trans r2, ?_⟩
    · rcases i1 with i1 | i1
      · rw [i1]
        rcases r1 with r1 | r1
        · exact .inl r1
        · rw [r1]; exact .inr (List.mem_cons_self ..)
      · exact .inr (List.mem_cons_of_mem _ i1)
    · intro q hq
      rcases List.mem_cons.1 hq with rfl | hq
      · exact i2.trans r3
      · exact i3 q hq

open Cert.ReferenceIdeal in
/-- The plain program's reduction over one axis returns the first position of the greatest entry. -/
theorem argReduce_first {s t u : Shape} {a : Fin s.rank} (h' : s.ReducesTo [a] t) (h : s.Reduces [a] t) (x : s.Idx → EReal)
    (y : s.Idx → BitVec 32) (hy : ∀ i, y i = BitVec.ofNat 32 (i a).val) (ix : u.Idx → EReal) (iy : u.Idx → BitVec 32)
    (hu : 0 < u.numel) (hix : ix (Shape.Idx.first hu) = ⊥) (hiy : iy (Shape.Idx.first hu) = 0#32) (j : t.Idx)
    (h0 : 0 < s.size a) (h1 : s.size a < 2 ^ 31) :
    First (fun k => x (h.lift j k)) (Host.argReduce (reducer_argmax_f32_i32 (F := Ideal)) x y ix iy h' hu j).2.toNat := by
  rw [Ideal.argReduce_eq_reduce2, Host.reduce2_eq_foldl_fiber, hix, hiy]
  set L := Host.argReduceFiber x y h' j with hL
  have hmem : ∀ q, q ∈ L ↔ ∃ k : Fin (s.size a), q = (x (h.lift j k), BitVec.ofNat 32 k.val) := by
    intro q
    rw [hL, Host.argReduceFiber, List.mem_map]
    constructor
    · rintro ⟨n, hn, rfl⟩
      have hd : h'.drop (s.rowMajor.symm n) = j := by simpa using (List.mem_filter.1 hn).2
      rw [Shape.ReducesTo.drop_eq_drop h' h] at hd
      refine ⟨s.rowMajor.symm n a, ?_⟩
      rw [← hd, h.lift_drop, hy]
    · rintro ⟨k, rfl⟩
      refine ⟨s.rowMajor (h.lift j k), List.mem_filter.2 ⟨List.mem_finRange _, ?_⟩, ?_⟩
      · rw [Equiv.symm_apply_apply, Shape.ReducesTo.drop_eq_drop h' h]; simpa using h.drop_lift j k
      · rw [Equiv.symm_apply_apply, hy, lift_self]
  have hint : ∀ k : Fin (s.size a), (BitVec.ofNat 32 k.val).toInt = k.val ∧ (BitVec.ofNat 32 k.val).toNat = k.val := by
    intro k
    have hk := k.isLt
    have e : (BitVec.ofNat 32 k.val).toNat = k.val := by rw [BitVec.toNat_ofNat, Nat.mod_eq_of_lt (by omega)]
    exact ⟨by rw [BitVec.toInt_eq_toNat_cond, e, if_pos (by omega)], e⟩
  obtain ⟨f1, f2, f3⟩ := fold_spec L (⊥, 0#32)
  set r := L.foldl (reducer_argmax_f32_i32 (F := Ideal)) (⊥, 0#32) with hr
  have hall : ∀ k : Fin (s.size a), x (h.lift j k) < r.1 ∨ (r.1 = x (h.lift j k) ∧ r.2.toInt ≤ k.val) := by
    intro k
    have := f3 _ ((hmem _).2 ⟨k, rfl⟩)
    rcases this with g | ⟨g, gi⟩
    · exact .inl g
    · exact .inr ⟨g, by rw [(hint k).1] at gi; exact gi⟩
  rcases f1 with e | e
  · -- every entry is the least value
    rw [e] at hall ⊢
    have hbot : ∀ k, x (h.lift j k) = ⊥ := by
      intro k
      rcases hall k with g | ⟨g, _⟩
      · exact absurd g not_lt_bot
      · exact g.symm
    refine ⟨h0, fun k => by simp only [hbot]; exact le_refl _, fun k hk => absurd hk (Nat.not_lt_zero _)⟩
  · obtain ⟨k, hk⟩ := (hmem _).1 e
    rw [hk] at hall ⊢
    simp only [(hint k).1, (hint k).2] at hall ⊢
    refine ⟨k.isLt, fun k' => ?_, fun k' hk' => ?_⟩
    · rcases hall k' with g | ⟨g, _⟩
      · exact g.le
      · exact g.symm.le
    · rcases hall k' with g | ⟨g, gi⟩
      · exact g
      · exact absurd gi (by omega)

theorem negInf_eq : (FloatOps.ofBits (F := Ideal) .f32 0xFF800000#32) = (⊥ : EReal) := by
  show Ideal.ieee 8 23 (0xFF800000#32) = ⊥
  unfold Ideal.ieee
  simp

end Cert.Proof.ArgMax

end
-- ==== Proof.KernelValue.lean ====
/-
  What the first call of the whole kernel leaves, over the reals: entry (r, c) of the products is the product of
  row r, normalised, with code c; entry r of the positions is the first position of the greatest of row r.
-/
module

public import proofs.«01_k».proof.Proof.KernelLaunch
public import proofs.«01_k».proof.Proof.ArgMax
public import Idealize.ShloMosaic.Lib.Pointwise
public import Idealize.ShloMosaic.Lib.Pipeline.Value
public import Idealize.ShloMosaic.Lib.Pipeline.Covers

@[expose] public section

noncomputable section

namespace Cert.Proof

open Idealize.ShloMosaic

/-- The product of a row, normalised, with a code. -/
def cosine (x e : Fin 32 → EReal) : EReal :=
  ∑ k : Fin 32, Ideal.div (x k) (max (Ideal.ofBits .f32 0x2B8CBCCC#32) (Ideal.sqrt (∑ l : Fin 32, x l * x l))) * e k

namespace KernelTile

open Cert.KernelIdeal Cert.KernelIdeal.Gen
open Idealize.ShloMosaic.TcCoe
open Idealize.ShloMosaic.Pipeline (Dat Cfg Window)

theorem pay1_at (x : FVec Ideal S256x32 .f32) (e : FVec Ideal S8192x32 .f32) (r : Fin 256) (c : Fin 8192) :
    k0_pay1 (F := Ideal) x e (ix2 r c) = cosine (fun k => x (ix2 r k)) (fun k => e (ix2 c k)) := by
  unfold k0_pay1 cosine
  pointwise

theorem cast_at (f : IVec S256 32) (r : Fin 256) : shapeCast S1x1x256 f shapeCasts_S256_S1x1x256 (ix3 0 0 r) = f (ix1 r) := by
  pointwise

theorem pay2_at (x : FVec Ideal S256x32 .f32) (e : FVec Ideal S8192x32 .f32) (r : Fin 256) :
    ArgMax.First (fun c => cosine (fun k => x (ix2 r k)) (fun k => e (ix2 c k))) (k0_pay2 (F := Ideal) x e (ix3 0 0 r)).toNat := by
  have h := ArgMax.reduceIndex_first reduces_S256x8192_S256 (k0_pay1 (F := Ideal) x e) (ix1 r) (by decide) (by decide)
  have e1 : (fun k => k0_pay1 (F := Ideal) x e (reduces_S256x8192_S256.lift (ix1 r) k)) = fun c => cosine (fun k => x (ix2 r k)) (fun k => e (ix2 c k)) := by
    funext c
    refine Eq.trans (congrArg (k0_pay1 (F := Ideal) x e) ?_) (pay1_at x e r c)
    funext a
    match a with
    | ⟨0, _⟩ => rfl
    | ⟨1, _⟩ => rfl
  rw [e1] at h
  have e2 : k0_pay2 (F := Ideal) x e (ix3 0 0 r) = Ideal.reduceIndex .argMax 1 reduces_S256x8192_S256 (k0_pay1 (F := Ideal) x e) (ix1 r) :=
    cast_at (reduceIndex .argMax 1 S256 (k0_pay1 (F := Ideal) x e) reduces_S256x8192_S256) r
  rw [e2]
  exact h

/-! ## The blocks in the arrays -/

/-- The block of rows a point works on. -/
abbrev blkNo (t : Fin cfg0.N) : Fin 32 := grid0.coords t 0

theorem row_lt (q : Fin 32) (r : Fin 256) : q.val * 256 + r.val < 8192 := by have := q.isLt; have := r.isLt; omega
/-- Row `r` of block `q`. -/
abbrev rowOf (q : Fin 32) (r : Fin 256) : Fin 8192 := ⟨q.val * 256 + r.val, row_lt q r⟩

theorem word (q : Fin 32) : (BitVec.ofNat 32 q.val).toNat = q.val := by
  rw [BitVec.toNat_ofNat, Nat.mod_eq_of_lt (by have := q.isLt; omega)]

theorem emb0 (t : Fin cfg0.N) (r : Fin 256) (k : Fin 32) : ((cfg0.win 0).blk t).view.emb (ix2 r k) = (ix2 (rowOf (blkNo t) r) k : S8192x32.Idx) := by
  have h := word (blkNo t)
  funext a; apply Fin.ext
  match a with
  | ⟨0, _⟩ => show (BitVec.ofNat 32 (blkNo t).val).toNat * 256 + 1 * r.val = (blkNo t).val * 256 + r.val; omega
  | ⟨1, _⟩ => show 0 * 32 + 1 * k.val = k.val; omega
theorem emb1 (t : Fin cfg0.N) (r : Fin 8192) (k : Fin 32) : ((cfg0.win 1).blk t).view.emb (ix2 r k) = (ix2 r k : S8192x32.Idx) := by
  funext a; apply Fin.ext
  match a with
  | ⟨0, _⟩ => show 0 * 8192 + 1 * r.val = r.val; omega
  | ⟨1, _⟩ => show 0 * 32 + 1 * k.val = k.val; omega
theorem emb2 (t : Fin cfg0.N) (r : Fin 256) (k : Fin 8192) : ((cfg0.win 2).blk t).view.emb (ix2 r k) = (ix2 (rowOf (blkNo t) r) k : S8192x8192.Idx) := by
  have h := word (blkNo t)
  funext a; apply Fin.ext
  match a with
  | ⟨0, _⟩ => show (BitVec.ofNat 32 (blkNo t).val).toNat * 256 + 1 * r.val = (blkNo t).val * 256 + r.val; omega
  | ⟨1, _⟩ => show 0 * 8192 + 1 * k.val = k.val; omega
theorem emb3 (t : Fin cfg0.N) (r : Fin 256) : ((cfg0.win 3).blk t).view.emb (ix3 0 0 r) = (ix3 (blkNo t) 0 r : S32x1x256.Idx) := by
  have h := word (blkNo t)
  funext a; apply Fin.ext
  match a with
  | ⟨0, _⟩ => show (BitVec.ofNat 32 (blkNo t).val).toNat * 1 + 1 * 0 = (blkNo t).val; omega
  | ⟨1, _⟩ => show 0 * 1 + 1 * 0 = 0; omega
  | ⟨2, _⟩ => show 0 * 256 + 1 * r.val = r.val; omega

theorem covers2 : (cfg0.win 2).Covers := by
  refine Pipeline.Window.covers_of_indexMap_surj _ rfl (by decide) fun β => ?_
  have h0 : (β 0).val < 32 := (β 0).isLt
  have h1 : (β 1).val < 1 := (β 1).isLt
  refine ⟨fun a => match a with | ⟨0, _⟩ => (⟨(β 0).val, h0⟩ : Fin 32), fun a => ?_⟩
  match a with
  | ⟨0, _⟩ => exact word ⟨(β 0).val, h0⟩
  | ⟨1, _⟩ => show 0 = (β 1).val; omega
theorem covers3 : (cfg0.win 3).Covers := by
  refine Pipeline.Window.covers_of_indexMap_surj _ rfl (by decide) fun β => ?_
  have h0 : (β 0).val < 32 := (β 0).isLt
  have h1 : (β 1).val < 1 := (β 1).isLt
  have h2 : (β 2).val < 1 := (β 2).isLt
  refine ⟨fun a => match a with | ⟨0, _⟩ => (⟨(β 0).val, h0⟩ : Fin 32), fun a => ?_⟩
  match a with
  | ⟨0, _⟩ => exact word ⟨(β 0).val, h0⟩
  | ⟨1, _⟩ => show 0 = (β 1).val; omega
  | ⟨2, _⟩ => show 0 = (β 2).val; omega

variable (V : (c : Dev nD) → (b : Ref sig .tc) → Buf (Elt Ideal) ((c.tc : Thread nD τ).loc b))

theorem inX_at (c : Dev nD) (t : Fin cfg0.N) (r : Fin 256) (k : Fin 32) :
    inX V c t (ix2 r k) = (V c main_v1 : FVec Ideal S8192x32 .f32) (ix2 (rowOf (blkNo t) r) k) :=
  congrArg (V c main_v1 : FVec Ideal S8192x32 .f32) (emb0 t r k)
theorem inE_at (c : Dev nD) (t : Fin cfg0.N) (r : Fin 8192) (k : Fin 32) :
    inE V c t (ix2 r k) = (V c main_v2 : FVec Ideal S8192x32 .f32) (ix2 r k) :=
  congrArg (V c main_v2 : FVec Ideal S8192x32 .f32) (emb1 t r k)

/-- The product of row `r` of the first array, normalised, with row `k` of the second. -/
def prodOf (x e : FVec Ideal S8192x32 .f32) (r k : Fin 8192) : EReal := cosine (fun l => x (ix2 r l)) (fun l => e (ix2 k l))

theorem distA_at (c : Dev nD) (r k : Fin 8192) :
    (distA V c : FVec Ideal S8192x8192 .f32) (ix2 r k) = prodOf (V c main_v1) (V c main_v2) r k := by
  refine (dat V c).arrAt_forall_of_cover 2 (fun i v => (v : EReal) = prodOf (V c main_v1) (V c main_v2) ((i : S8192x8192.Idx) 0) ((i : S8192x8192.Idx) 1)) (fun t _ y => ?_)
    (covers2.cover _ (Memref.isWhole_whole _)) (ix2 r k)
  obtain ⟨p, q, rfl⟩ : ∃ (p : Fin 256) (q : Fin 8192), y = (ix2 p q : S256x8192.Idx) := ⟨y 0, y 1, by
    funext a
    match a with
    | ⟨0, _⟩ => rfl
    | ⟨1, _⟩ => rfl⟩
  rw [emb2]
  show k0_pay1 (F := Ideal) (inX V c t) (inE V c t) (ix2 p q) = prodOf (V c main_v1) (V c main_v2) (rowOf (blkNo t) p) q
  rw [pay1_at]
  unfold prodOf
  exact congrArg₂ cosine (funext fun l => inX_at V c t p l) (funext fun l => inE_at V c t q l)

theorem indA_at (c : Dev nD) (q : Fin 32) (r : Fin 256) :
    ArgMax.First (prodOf (V c main_v1) (V c main_v2) (rowOf q r)) ((indA V c : IVec S32x1x256 32) (ix3 q 0 r)).toNat := by
  refine (dat V c).arrAt_forall_of_cover 3 (fun i v => ArgMax.First (prodOf (V c main_v1) (V c main_v2) (rowOf ((i : S32x1x256.Idx) 0) ((i : S32x1x256.Idx) 2))) (v : BitVec 32).toNat) (fun t _ y => ?_)
    (covers3.cover _ (Memref.isWhole_whole _)) (ix3 q 0 r)
  obtain ⟨p, rfl⟩ : ∃ (p : Fin 256), y = (ix3 0 0 p : S1x1x256.Idx) := ⟨y 2, by
    funext a
    match a with
    | ⟨0, _⟩ => exact Subsingleton.elim (α := Fin 1) _ _
    | ⟨1, _⟩ => exact Subsingleton.elim (α := Fin 1) _ _
    | ⟨2, _⟩ => rfl⟩
  rw [emb3]
  show ArgMax.First (prodOf (V c main_v1) (V c main_v2) (rowOf (blkNo t) p)) (k0_pay2 (F := Ideal) (inX V c t) (inE V c t) (ix3 0 0 p)).toNat
  have h := pay2_at (inX V c t) (inE V c t) p
  have e : (fun k => cosine (fun l => inX V c t (ix2 p l)) (fun l => inE V c t (ix2 k l))) = prodOf (V c main_v1) (V c main_v2) (rowOf (blkNo t) p) :=
    funext fun k => congrArg₂ cosine (funext fun l => inX_at V c t p l) (funext fun l => inE_at V c t k l)
  rw [e] at h
  exact h

end KernelTile

end Cert.Proof

end
-- ==== Proof.RefRows.lean ====
/-
  The plain program: its run, and what it leaves — the normalised rows' products with the codes, each row's first
  greatest product, and the code that position names.
-/
module

public import proofs.«01_k».proof.Defs
public import proofs.«01_k».proof.Proof.Gen.ReferenceIdeal
public import proofs.«01_k».proof.Proof.Gen.Pre_no_tie_ReferenceIdeal
public import proofs.«01_k».proof.Proof.TakeRows
public import proofs.«01_k».proof.Proof.ArgMax
public import Idealize.ShloMosaic.Lib.StableHlo.Run
public import Idealize.ShloMosaic.Lib.Quiescent
public import Idealize.ShloMosaic.Lib.Pointwise
public import Idealize.ShloMosaic.PureOps.Reduce

@[expose] public section

noncomputable section

namespace Cert.Proof.RefRows

open Cert.ReferenceIdeal Cert.ReferenceIdeal.Gen
open Idealize.ShloMosaic Idealize.ShloMosaic.TcCoe Idealize.ShloMosaic.StableHlo Idealize.SL.Sem

variable {F : FTy → Type} [FloatOps F]

/-- The position of the greatest of each row, by the two-operand reduction. -/
def argF (x : FVec F S1x16384x8192 .f32) (y : IVec S1x16384x8192 32) (u : FVec F S_ .f32) (v : IVec S_ 32) : IVec S1x16384 32 := fun j =>
  (Host.argReduce reducer_argmax_f32_i32 x y u v reducesTo_S1x16384x8192_S1x16384_d2 h_S_ j).2

/-- The program's operations, in order: the products, -/
def opsD : List (HloOp τ sig (Elt F)) :=
  [StableHlo.unary main_arg0 main_v0 (broadcastInDim S1x16x1024x32 ![1, 2, 3] bcast_S16x1024x32_S1x16x1024x32_1_2_3 : (⟨S16x1024x32, .f32⟩ : BufTy).Contents (Elt F) → (⟨S1x16x1024x32, .f32⟩ : BufTy).Contents (Elt F)),
   StableHlo.reshape main_v0 main_v1 (rfl : (.f32 : EltTy) = .f32) shapeCasts_S1x16x1024x32_S1x16384x32,
   StableHlo.TRef.binary (StableHlo.TRef.of main_v1 : StableHlo.TRef sig ⟨S1x16384x32, .f32⟩) (StableHlo.TRef.of main_v1 : StableHlo.TRef sig ⟨S1x16384x32, .f32⟩) main_call0.v0 mulf,
   StableHlo.TRef.nullary main_call0.cst (constant S_ .f32 0x00000000#32),
   StableHlo.TRef.binary main_call0.v0 main_call0.cst main_call0.v1 (fun x v => Host.reduceAdd x v reducesTo_S1x16384x32_S1x16384_d2 h_S_),
   StableHlo.TRef.unary main_call0.v1 main_call0.v2 (broadcastInDim S1x16384x1 ![0, 1] bcast_S1x16384_S1x16384x1_0_1),
   StableHlo.TRef.unary main_call0.v2 main_call0.v3 Host.sqrt,
   StableHlo.nullary main_cst (constant S_ .f32 0x2B8CBCCC#32),
   StableHlo.TRef.unary (StableHlo.TRef.of main_cst : StableHlo.TRef sig ⟨S_, .f32⟩) main_call1.v0 id,
   StableHlo.TRef.unary main_call1.v0 main_call1.v1 (broadcastInDim S1x16384x1 ![] bcast_S_S1x16384x1),
   StableHlo.TRef.binary main_call1.v1 (StableHlo.TRef.of main_v2 : StableHlo.TRef sig ⟨S1x16384x1, .f32⟩) main_call1.v2 maximumf,
   StableHlo.unary main_v3 main_v4 (broadcastInDim S1x16384x32 ![0, 1, 2] bcast_S1x16384x1_S1x16384x32_0_1_2 : (⟨S1x16384x1, .f32⟩ : BufTy).Contents (Elt F) → (⟨S1x16384x32, .f32⟩ : BufTy).Contents (Elt F)),
   StableHlo.binary main_v1 main_v4 main_v5 (Host.divf : (⟨S1x16384x32, .f32⟩ : BufTy).Contents (Elt F) → (⟨S1x16384x32, .f32⟩ : BufTy).Contents (Elt F) → (⟨S1x16384x32, .f32⟩ : BufTy).Contents (Elt F)),
   StableHlo.binary main_v5 main_arg1 main_v6 ((fun l r => Host.dotGeneral dot_S1x16384x32_S1x8192x32_S1x16384x8192_2_2_1_1_0_0 none l r) : (⟨S1x16384x32, .f32⟩ : BufTy).Contents (Elt F) → (⟨S1x8192x32, .f32⟩ : BufTy).Contents (Elt F) → (⟨S1x16384x8192, .f32⟩ : BufTy).Contents (Elt F))]
/-- the positions of the greatest, -/
def opsI : List (HloOp τ sig (Elt F)) :=
  [StableHlo.TRef.nullary main_call2.v0 (iotaInDim S1x16384x8192 32 2),
   StableHlo.TRef.nullary main_call2.cst (constant S_ .f32 0xFF800000#32),
   StableHlo.TRef.nullary main_call2.c (constantI S_ 32 0#32),
   StableHlo.TRef.quaternary (StableHlo.TRef.of main_v6 : StableHlo.TRef sig ⟨S1x16384x8192, .f32⟩) main_call2.v0 main_call2.cst main_call2.c main_call2.v1_0 (fun x y u v j => (Host.argReduce reducer_argmax_f32_i32 x y u v reducesTo_S1x16384x8192_S1x16384_d2 h_S_ j).1),
   StableHlo.TRef.quaternary (StableHlo.TRef.of main_v6 : StableHlo.TRef sig ⟨S1x16384x8192, .f32⟩) main_call2.v0 main_call2.cst main_call2.c main_call2.v1_1 argF,
   StableHlo.reshape main_v7 main_v8 (rfl : (.i32 : EltTy) = .i32) shapeCasts_S1x16384_S1x16x1024]
/-- and the codes there. -/
def opsQ : List (HloOp τ sig (Elt F)) :=
  [StableHlo.TRef.nullary main_call3.c (constantI S_ 32 0#32),
   StableHlo.TRef.unary main_call3.c main_call3.v0 (broadcastInDim S1x16x1024 ![] bcast_S_S1x16x1024),
   StableHlo.TRef.binary (StableHlo.TRef.of main_v8 : StableHlo.TRef sig ⟨S1x16x1024, .i32⟩) main_call3.v0 main_call3.v1 (cmpi .slt),
   StableHlo.TRef.nullary main_call3.c_0 (constantI S_ 32 8192#32),
   StableHlo.TRef.unary main_call3.c_0 main_call3.v2 (broadcastInDim S1x16x1024 ![] bcast_S_S1x16x1024),
   StableHlo.TRef.binary (StableHlo.TRef.of main_v8 : StableHlo.TRef sig ⟨S1x16x1024, .i32⟩) main_call3.v2 main_call3.v3 addi,
   StableHlo.TRef.ternary main_call3.v1 main_call3.v3 (StableHlo.TRef.of main_v8 : StableHlo.TRef sig ⟨S1x16x1024, .i32⟩) main_call3.call0.v0 select,
   StableHlo.TRef.unary main_call3.call0.v0 main_call3.v5 (broadcastInDim S1x16x1024x1 ![0, 1, 2] bcast_S1x16x1024_S1x16x1024x1_0_1_2),
   StableHlo.TRef.nullary main_call3.c_1 (constantI S1 32 8191#32),
   StableHlo.TRef.nullary main_call3.c_2 (constantI S_ 32 0#32),
   StableHlo.TRef.unary main_call3.c_2 main_call3.v6 (broadcastInDim S1x16x1024x1 ![] bcast_S_S1x16x1024x1),
   StableHlo.TRef.binary main_call3.v5 main_call3.v6 main_call3.v7 (cmpi .sge),
   StableHlo.TRef.unary main_call3.c_1 main_call3.v8 (broadcastInDim S1x1x1x1 ![3] bcast_S1_S1x1x1x1_3),
   StableHlo.TRef.unary main_call3.v8 main_call3.v9 (broadcastInDim S1x16x1024x1 ![0, 1, 2, 3] bcast_S1x1x1x1_S1x16x1024x1_0_1_2_3),
   StableHlo.TRef.binary main_call3.v5 main_call3.v9 main_call3.v10 (cmpi .sle),
   StableHlo.TRef.binary main_call3.v7 main_call3.v10 main_call3.v11 andi,
   StableHlo.TRef.nullary main_call3.c_3 (constantI S_ 1 1#1),
   StableHlo.TRef.binary main_call3.v11 main_call3.c_3 main_call3.v12 (fun x v => Host.reduce IntOp.andi x v reducesTo_S1x16x1024x1_S1x16x1024_d3 h_S_),
   StableHlo.TRef.binary (StableHlo.TRef.of main_arg1 : StableHlo.TRef sig ⟨S1x8192x32, .f32⟩) main_call3.v5 main_call3.v13 (fun x i => Host.gather gather_S1x8192x32_S1x16x1024x1_S1x16x1024x32_3_1_0_0_1_3_1132 x i),
   StableHlo.TRef.unary main_call3.v12 main_call3.v14 (broadcastInDim S1x16x1024x32 ![0, 1, 2] bcast_S1x16x1024_S1x16x1024x32_0_1_2),
   StableHlo.TRef.nullary main_call3.cst (constant S_ .f32 0x7FC00000#32),
   StableHlo.TRef.unary main_call3.cst main_call3.v15 (broadcastInDim S1x16x1024x32 ![] bcast_S_S1x16x1024x32),
   StableHlo.TRef.ternary main_call3.v14 main_call3.v13 main_call3.v15 main_call3.v16 select,
   StableHlo.reshape main_v6 main_v10 (rfl : (.f32 : EltTy) = .f32) shapeCasts_S1x16384x8192_S1x16x1024x8192,
   StableHlo.reshape main_v9 main_v11 (rfl : (.f32 : EltTy) = .f32) shapeCasts_S1x16x1024x32_S16x1024x32,
   StableHlo.reshape main_v8 main_v12 (rfl : (.i32 : EltTy) = .i32) shapeCasts_S1x16x1024_S16x1024,
   StableHlo.reshape main_v10 main_v13 (rfl : (.f32 : EltTy) = .f32) shapeCasts_S1x16x1024x8192_S16x1024x8192]

def ops : List (HloOp τ sig (Elt F)) := opsD ++ (opsI ++ opsQ)

theorem main_eq (c : Dev nD) : main (F := F) c = seq ops := rfl

theorem opsD_sub : (opsD : List (HloOp τ sig (Elt F))).Forall fun op => op.bufs ⊆ tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub ..⟩
theorem opsI_sub : (opsI : List (HloOp τ sig (Elt F))).Forall fun op => op.bufs ⊆ tcRefs τ sig :=
  ⟨StableHlo.nullary_bufs_sub .., StableHlo.nullary_bufs_sub .., StableHlo.nullary_bufs_sub .., StableHlo.quaternary_bufs_sub .., StableHlo.quaternary_bufs_sub .., StableHlo.reshape_bufs_sub ..⟩
theorem opsQ_sub : (opsQ : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.reshape_bufs_sub .., StableHlo.reshape_bufs_sub .., StableHlo.reshape_bufs_sub .., StableHlo.reshape_bufs_sub ..⟩
theorem ops_sub : (ops : List (HloOp τ sig (Elt F))).Forall fun op => op.bufs ⊆ tcRefs τ sig := by
  rw [ops, List.forall_append, List.forall_append]
  exact ⟨opsD_sub, opsI_sub, opsQ_sub⟩

/-- The rows, one after another. -/
def rows (x : FVec F S16x1024x32 .f32) : FVec F S1x16384x32 .f32 :=
  shapeCast S1x16384x32 (broadcastInDim S1x16x1024x32 ![1, 2, 3] bcast_S16x1024x32_S1x16x1024x32_1_2_3 x) shapeCasts_S1x16x1024x32_S1x16384x32

/-- The rows' lengths, not below the least one allowed. -/
def lens (v : FVec F S1x16384x32 .f32) : FVec F S1x16384x1 .f32 :=
  maximumf (broadcastInDim S1x16384x1 ![] bcast_S_S1x16384x1 (constant S_ .f32 0x2B8CBCCC#32))
    (Host.sqrt (broadcastInDim S1x16384x1 ![0, 1] bcast_S1x16384_S1x16384x1_0_1
      (Host.reduceAdd (mulf v v) (constant S_ .f32 0x00000000#32) reducesTo_S1x16384x32_S1x16384_d2 h_S_)))

/-- The products of the normalised rows with the codes. -/
def dists (x : FVec F S16x1024x32 .f32) (e : FVec F S1x8192x32 .f32) : FVec F S1x16384x8192 .f32 :=
  Host.dotGeneral dot_S1x16384x32_S1x8192x32_S1x16384x8192_2_2_1_1_0_0 none
    (Host.divf (rows x) (broadcastInDim S1x16384x32 ![0, 1, 2] bcast_S1x16384x1_S1x16384x32_0_1_2 (lens (rows x)))) e

/-- The positions of the greatest products. -/
def inds (d : FVec F S1x16384x8192 .f32) : IVec S1x16384 32 :=
  argF d (iotaInDim S1x16384x8192 32 2) (constant S_ .f32 0xFF800000#32) (constantI S_ 32 0#32)

/-- The start column the gather reads: a negative number has the table's height added. -/
def startCol (i : IVec S1x16x1024 32) : IVec S1x16x1024x1 32 :=
  broadcastInDim S1x16x1024x1 ![0, 1, 2] bcast_S1x16x1024_S1x16x1024x1_0_1_2
    (select (cmpi .slt i (broadcastInDim S1x16x1024 ![] bcast_S_S1x16x1024 (constantI S_ 32 0#32)))
      (addi i (broadcastInDim S1x16x1024 ![] bcast_S_S1x16x1024 (constantI S_ 32 8192#32))) i)

/-- Which rows are in range. -/
def okCol (i : IVec S1x16x1024 32) : IVec S1x16x1024 1 :=
  Host.reduce IntOp.andi
    (andi (cmpi .sge (startCol i) (broadcastInDim S1x16x1024x1 ![] bcast_S_S1x16x1024x1 (constantI S_ 32 0#32)))
      (cmpi .sle (startCol i) (broadcastInDim S1x16x1024x1 ![0, 1, 2, 3] bcast_S1x1x1x1_S1x16x1024x1_0_1_2_3 (broadcastInDim S1x1x1x1 ![3] bcast_S1_S1x1x1x1_3 (constantI S1 32 8191#32)))))
    (constantI S_ 1 1#1) reducesTo_S1x16x1024x1_S1x16x1024_d3 h_S_

/-- The codes named by the positions. -/
def taken (e : FVec F S1x8192x32 .f32) (i : IVec S1x16x1024 32) : FVec F S1x16x1024x32 .f32 :=
  select (broadcastInDim S1x16x1024x32 ![0, 1, 2] bcast_S1x16x1024_S1x16x1024x32_0_1_2 (okCol i))
    (Host.gather gather_S1x8192x32_S1x16x1024x1_S1x16x1024x32_3_1_0_0_1_3_1132 e (startCol i))
    (broadcastInDim S1x16x1024x32 ![] bcast_S_S1x16x1024x32 (constant S_ .f32 0x7FC00000#32))

/-- The three results. -/
def resI (d : FVec F S1x16384x8192 .f32) : IVec S1x16x1024 32 := shapeCast S1x16x1024 (inds d) shapeCasts_S1x16384_S1x16x1024
def outQ (e : FVec F S1x8192x32 .f32) (i : IVec S1x16x1024 32) : FVec F S16x1024x32 .f32 :=
  shapeCast S16x1024x32 (taken e i) shapeCasts_S1x16x1024x32_S16x1024x32
def outI (i : IVec S1x16x1024 32) : IVec S16x1024 32 := shapeCast S16x1024 i shapeCasts_S1x16x1024_S16x1024
def outD (d : FVec F S1x16384x8192 .f32) : FVec F S16x1024x8192 .f32 :=
  shapeCast S16x1024x8192 (shapeCast S1x16x1024x8192 d shapeCasts_S1x16384x8192_S1x16x1024x8192) shapeCasts_S1x16x1024x8192_S16x1024x8192

theorem of_v6 (x : (⟨S1x16384x8192, .f32⟩ : BufTy).Contents (Elt F)) : (StableHlo.TRef.of main_v6 : StableHlo.TRef sig ⟨S1x16384x8192, .f32⟩).ofBuf x = x := rfl
theorem of_v8 (x : (⟨S1x16x1024, .i32⟩ : BufTy).Contents (Elt F)) : (StableHlo.TRef.of main_v8 : StableHlo.TRef sig ⟨S1x16x1024, .i32⟩).ofBuf x = x := rfl
theorem of_arg1 (x : (⟨S1x8192x32, .f32⟩ : BufTy).Contents (Elt F)) : (StableHlo.TRef.of main_arg1 : StableHlo.TRef sig ⟨S1x8192x32, .f32⟩).ofBuf x = x := rfl
theorem to_v7 (x : (⟨S1x16384, .i32⟩ : BufTy).Contents (Elt F)) : (StableHlo.TRef.of main_v7 : StableHlo.TRef sig ⟨S1x16384, .i32⟩).toBuf x = x := rfl
theorem to_v9 (x : (⟨S1x16x1024x32, .f32⟩ : BufTy).Contents (Elt F)) : (StableHlo.TRef.of main_v9 : StableHlo.TRef sig ⟨S1x16x1024x32, .f32⟩).toBuf x = x := rfl

theorem cast_v8 (X : IVec S1x16384 32) : (fun i => shapeCast main_v8.ty.shape X shapeCasts_S1x16384_S1x16x1024 i) = shapeCast S1x16x1024 X shapeCasts_S1x16384_S1x16x1024 := rfl
theorem resI_eq (D : FVec F S1x16384x8192 .f32) :
    shapeCast S1x16x1024 (argF D (iotaInDim S1x16384x8192 32 2) (constant S_ .f32 0xFF800000#32) (constantI S_ 32 0#32)) shapeCasts_S1x16384_S1x16x1024 = resI D := rfl

set_option maxRecDepth 16384 in
theorem d_eq (V : Valuation τ sig (Elt F)) :
    after opsD V (main_v6 : DevRef τ sig) = dists (V (main_arg0 : DevRef τ sig)) (V (main_arg1 : DevRef τ sig)) := by
  delta opsD
  after_results_simp
  rfl
theorem d_arg0 (V : Valuation τ sig (Elt F)) : after opsD V (main_arg0 : DevRef τ sig) = V (main_arg0 : DevRef τ sig) := rfl
theorem d_arg1 (V : Valuation τ sig (Elt F)) : after opsD V (main_arg1 : DevRef τ sig) = V (main_arg1 : DevRef τ sig) := rfl

set_option maxRecDepth 16384 in
theorem i_eq (V : Valuation τ sig (Elt F)) : after opsI V (main_v8 : DevRef τ sig) = resI (V (main_v6 : DevRef τ sig)) := by
  delta opsI
  after_results_simp
  simp only [TRef.ofBuf_toBuf]
  erw [of_v6, to_v7]
  exact (cast_v8 _).trans (resI_eq _)
theorem i_v6 (V : Valuation τ sig (Elt F)) : after opsI V (main_v6 : DevRef τ sig) = V (main_v6 : DevRef τ sig) := rfl
theorem i_arg0 (V : Valuation τ sig (Elt F)) : after opsI V (main_arg0 : DevRef τ sig) = V (main_arg0 : DevRef τ sig) := rfl
theorem i_arg1 (V : Valuation τ sig (Elt F)) : after opsI V (main_arg1 : DevRef τ sig) = V (main_arg1 : DevRef τ sig) := rfl

set_option maxRecDepth 16384 in
theorem q_eq (V : Valuation τ sig (Elt F)) :
    after opsQ V (main_v11 : DevRef τ sig) = outQ (V (main_arg1 : DevRef τ sig)) (V (main_v8 : DevRef τ sig)) := by
  delta opsQ
  after_results_simp
  simp only [TRef.ofBuf_toBuf]
  erw [of_v8, of_arg1, to_v9]
  unfold outQ taken okCol startCol
  rfl
set_option maxRecDepth 16384 in
theorem q_v12 (V : Valuation τ sig (Elt F)) : after opsQ V (main_v12 : DevRef τ sig) = outI (V (main_v8 : DevRef τ sig)) := by
  delta opsQ
  after_results_simp
  rfl
set_option maxRecDepth 16384 in
theorem q_v13 (V : Valuation τ sig (Elt F)) : after opsQ V (main_v13 : DevRef τ sig) = outD (V (main_v6 : DevRef τ sig)) := by
  delta opsQ
  after_results_simp
  rfl
theorem q_arg0 (V : Valuation τ sig (Elt F)) : after opsQ V (main_arg0 : DevRef τ sig) = V (main_arg0 : DevRef τ sig) := rfl
theorem q_arg1 (V : Valuation τ sig (Elt F)) : after opsQ V (main_arg1 : DevRef τ sig) = V (main_arg1 : DevRef τ sig) := rfl

theorem scopedRefs_eq : (Finset.univ.filter fun b : Ref sig .tc => b.isScoped) = ∅ := by decide
theorem scopedSems_eq : (Finset.univ.filter fun sm : SemLoc sig => sm.isScoped .tc) = ∅ := by decide

theorem after_ops (V : Valuation τ sig (Elt F)) : after ops V = after opsQ (after opsI (after opsD V)) := by
  rw [ops, after_append, after_append]

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v11) = outQ (m ((c.tc : Thread nD τ).loc main_arg1)) (resI (dists (m ((c.tc : Thread nD τ).loc main_arg0)) (m ((c.tc : Thread nD τ).loc main_arg1))))
        ∧ r.2.mem ((c.tc : Thread nD τ).loc main_v12) = outI (resI (dists (m ((c.tc : Thread nD τ).loc main_arg0)) (m ((c.tc : Thread nD τ).loc main_arg1))))
        ∧ r.2.mem ((c.tc : Thread nD τ).loc main_v13) = outD (dists (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => by
      have hb := h c
      refine ⟨(hb main_v11).trans ?_, (hb main_v12).trans ?_, (hb main_v13).trans ?_, (hb main_arg0).trans ?_, (hb main_arg1).trans ?_⟩
      · rw [after_ops, q_eq, i_eq, i_arg1, d_eq, d_arg1]
      · rw [after_ops, q_v12, i_eq, d_eq]
      · rw [after_ops, q_v13, i_v6, d_eq]
      · rw [after_ops, q_arg0, i_arg0, d_arg0]
      · rw [after_ops, q_arg1, i_arg1, d_arg1],
      sem_eq_zero_of_no_sems (by decide) r.2⟩)
    (run_seq scopedRefs_eq scopedSems_eq defs main (fun _ => ops) main_eq (fun _ => ops_sub) m ρ)

theorem frame_reference : Cert.quiescent_ReferenceIdeal := fun m ρ _ =>
  (θ_run Cert.ReferenceIdeal.defs _ _).mono (fun _ h => ⟨fun c => (h.1 c).2.2.2, h.2⟩) (run_main (F := Ideal) m ρ)
theorem frame_reference_pre : Cert.quiescent_ReferenceIdeal_pre_no_tie_ReferenceIdeal := fun m ρ _ =>
  (θ_run Cert.ReferenceIdeal.defs _ _).mono (fun _ h => ⟨fun c => (h.1 c).2.2.2, h.2⟩) (run_main (F := Ideal) m ρ)

end Cert.Proof.RefRows

end
-- ==== Proof.KernelClaims.lean ====
/-
  The whole kernel over the reals: its three results entry by entry, equal to the plain program's.
-/
module

public import proofs.«01_k».proof.Proof.KernelValue
public import proofs.«01_k».proof.Proof.RefRows
public import proofs.«01_k».proof.Proof.Gen.Pre_no_tie_KernelIdeal

@[expose] public section

noncomputable section

namespace Cert.Proof.KernelTile

open Cert.KernelIdeal Cert.KernelIdeal.Gen
open Idealize.ShloMosaic Idealize.ShloMosaic.TcCoe Idealize.SL.Sem
open Idealize.ShloMosaic.StableHlo (after launchContents)

variable (m : (ℓ : Loc nD τ sig) → Buf (Elt Ideal) ℓ)

abbrev argX (d : Dev nD) : FVec Ideal S8x1024x32 .f32 := m ((d.tc : Thread nD τ).loc main_arg0)
abbrev argE (d : Dev nD) : FVec Ideal S1x8192x32 .f32 := m ((d.tc : Thread nD τ).loc main_arg1)

/-! ## The buffers the first call reads -/

set_option maxRecDepth 16384 in
theorem v1_eq (d : Dev nD) : V0c m d main_v1 = shapeCast S8192x32 (argX m d) shapeCasts_S8x1024x32_S8192x32 := by
  unfold V0c V0
  delta ops0
  after_results_simp
  rfl
set_option maxRecDepth 16384 in
theorem v2_eq (d : Dev nD) : V0c m d main_v2 = shapeCast S8192x32 (argE m d) shapeCasts_S1x8192x32_S8192x32 := by
  unfold V0c V0
  delta ops0
  after_results_simp
  rfl

theorem flatRow_lt (b : Fin 8) (n : Fin 1024) : b.val * 1024 + n.val < 8192 := by have := b.isLt; have := n.isLt; omega
abbrev flatRow (b : Fin 8) (n : Fin 1024) : Fin 8192 := ⟨b.val * 1024 + n.val, flatRow_lt b n⟩

theorem v1_at (d : Dev nD) (b : Fin 8) (n : Fin 1024) (l : Fin 32) :
    (V0c m d main_v1 : FVec Ideal S8192x32 .f32) (ix2 (flatRow b n) l) = argX m d (ix3 b n l) := by
  rw [v1_eq]
  generalize argX m d = X
  pointwise
  have h := b.isLt
  have h' := n.isLt
  refine congrArg X ?_
  funext a
  match a with
  | ⟨0, _⟩ => exact Fin.ext (show (b.val * 1024 + n.val) / 1024 = b.val by omega)
  | ⟨1, _⟩ => exact Fin.ext (show (b.val * 1024 + n.val) % 1024 = n.val by omega)
  | ⟨2, _⟩ => rfl
theorem v2_at (d : Dev nD) (k : Fin 8192) (l : Fin 32) :
    (V0c m d main_v2 : FVec Ideal S8192x32 .f32) (ix2 k l) = argE m d (ix3 0 k l) := by
  rw [v2_eq]
  generalize argE m d = X
  pointwise

theorem castI_at (f : IVec S32x1x256 32) (b : Fin 8) (n : Fin 1024) :
   shapeCast S8x1024 f shapeCasts_S32x1x256_S8x1024 (ix2 b n) = f (ix3 ⟨b.val * 4 + n.val / 256, by omega⟩ 0 ⟨n.val % 256, by omega⟩) := by
  pointwise
theorem castI1_at (f : IVec S32x1x256 32) (r : Fin 8192) :
   shapeCast S1x8192 f shapeCasts_S32x1x256_S1x8192 (ix2 0 r) = f (ix3 ⟨r.val / 256, by omega⟩ 0 ⟨r.val % 256, by omega⟩) := by
  pointwise
theorem castD_at (f : FVec Ideal S8192x8192 .f32) (b : Fin 8) (n : Fin 1024) (k : Fin 8192) :
   shapeCast S8x1024x8192 f shapeCasts_S8192x8192_S8x1024x8192 (ix3 b n k) = f (ix2 (flatRow b n) k) := by
  pointwise
theorem castQ_at (f : FVec Ideal S8192x32 .f32) (b : Fin 8) (n : Fin 1024) (k : Fin 32) :
   shapeCast S8x1024x32 f shapeCasts_S8192x32_S8x1024x32 (ix3 b n k) = f (ix2 (flatRow b n) k) := by
  pointwise

/-! ## What is left at the end -/

/-- The codes padded to 128 lanes. -/
def paddedW (x : FVec Ideal S8192x32 .f32) : FVec Ideal S8192x128 .f32 :=
  pad S8192x128 ![0, 0] ![0, 96] ![0, 0] x (sitofp .f32 (constantI S_ 32 0#32) : FVec Ideal S_ .f32) pads_S8192x32_S8192x128_000_0960 h_S_

theorem paddedW_at (x : FVec Ideal S8192x32 .f32) (r : Fin 8192) (l : Fin 128) (h : l.val < 32) : paddedW x (ix2 r l) = x (ix2 r ⟨l.val, h⟩) := by
  unfold paddedW
  pointwise
  rw [dif_pos h]

set_option maxRecDepth 16384 in
theorem TB_eq (d : Dev nD) : TB m d = paddedW (V0c m d main_v2) := by
  rw [← V1_ne m d main_v2 (by decide) (by decide)]
  unfold TB VA
  delta opsA
  after_results_simp
  rfl

set_option maxRecDepth 16384 in
theorem IX_eq (d : Dev nD) : IX m d = shapeCast S1x8192 (indA (V0c m) d : IVec S32x1x256 32) shapeCasts_S32x1x256_S1x8192 := by
  rw [← V1_a m d]
  unfold IX VA
  delta opsA
  after_results_simp
  rfl

set_option maxRecDepth 16384 in
theorem VB_v8 (d : Dev nD) : VB m d (Proc.devRef .tc main_v8)
    = shapeCast S8x1024x32 (extractStridedSlice S8192x32 ![0, 0] (gath (F := Ideal) (e := .f32) (TB m d) (IX m d) : FVec Ideal S8192x128 .f32) slices_S8192x128_S8192x32_0_0) shapeCasts_S8192x32_S8x1024x32 := by
  rw [← show VC m d oR = gath (F := Ideal) (e := .f32) (TB m d) (IX m d) from Function.update_self _ _ _]
  unfold VB
  delta opsB
  after_results_simp
  rfl

theorem VC_ne (d : Dev nD) (b : Ref sig .tc) (h : b ≠ main_v6) : VC m d (Proc.devRef .tc b) = VA m d (Proc.devRef .tc b) :=
  Function.update_of_ne (StableHlo.devRef_ne_of_ne h) _ _

set_option maxRecDepth 16384 in
theorem VB_v9 (d : Dev nD) : VB m d (Proc.devRef .tc main_v9) = shapeCast S8x1024 (indA (V0c m) d : IVec S32x1x256 32) shapeCasts_S32x1x256_S8x1024 := by
  have e : VC m d (Proc.devRef .tc main_v3_1) = indA (V0c m) d := by
    rw [VC_ne m d _ (by decide), ← V1_a m d]
    unfold VA
    delta opsA
    after_results_simp
  rw [← e]
  unfold VB
  delta opsB
  after_results_simp
  rfl

set_option maxRecDepth 16384 in
theorem VB_v10 (d : Dev nD) : VB m d (Proc.devRef .tc main_v10) = shapeCast S8x1024x8192 (distA (V0c m) d : FVec Ideal S8192x8192 .f32) shapeCasts_S8192x8192_S8x1024x8192 := by
  have e : VC m d (Proc.devRef .tc main_v3_0) = distA (V0c m) d := by
    rw [VC_ne m d _ (by decide), ← V1_d m d]
    unfold VA
    delta opsA
    after_results_simp
  rw [← e]
  unfold VB
  delta opsB
  after_results_simp
  rfl

set_option maxRecDepth 16384 in
theorem VB_arg0 (d : Dev nD) : VB m d (Proc.devRef .tc main_arg0) = m ((d.tc : Thread nD τ).loc main_arg0) := by
  have e : VC m d (Proc.devRef .tc main_arg0) = m ((d.tc : Thread nD τ).loc main_arg0) := by
    have e' : VA m d (Proc.devRef .tc main_arg0) = V1c m d main_arg0 := by
      unfold VA
      delta opsA
      after_results_simp
    rw [VC_ne m d _ (by decide), e', V1_ne m d _ (by decide) (by decide)]
    unfold V0c V0
    delta ops0
    after_results_simp
  rw [← e]
  unfold VB
  delta opsB
  after_results_simp
set_option maxRecDepth 16384 in
theorem VB_arg1 (d : Dev nD) : VB m d (Proc.devRef .tc main_arg1) = m ((d.tc : Thread nD τ).loc main_arg1) := by
  have e : VC m d (Proc.devRef .tc main_arg1) = m ((d.tc : Thread nD τ).loc main_arg1) := by
    have e' : VA m d (Proc.devRef .tc main_arg1) = V1c m d main_arg1 := by
      unfold VA
      delta opsA
      after_results_simp
    rw [VC_ne m d _ (by decide), e', V1_ne m d _ (by decide) (by decide)]
    unfold V0c V0
    delta ops0
    after_results_simp
  rw [← e]
  unfold VB
  delta opsB
  after_results_simp

/-! ## Entry by entry -/

/-- The products of one row of the input with every code. -/
abbrev prodK (d : Dev nD) (b : Fin 8) (n : Fin 1024) (k : Fin 8192) : EReal :=
  cosine (fun l => argX m d (ix3 b n l)) (fun l => argE m d (ix3 0 k l))

theorem prod_eq (d : Dev nD) (b : Fin 8) (n : Fin 1024) (k : Fin 8192) :
    prodOf (V0c m d main_v1) (V0c m d main_v2) (flatRow b n) k = prodK m d b n k :=
  congrArg₂ cosine (funext fun l => v1_at m d b n l) (funext fun l => v2_at m d k l)

theorem v10_at (d : Dev nD) (b : Fin 8) (n : Fin 1024) (k : Fin 8192) :
    (VB m d (Proc.devRef .tc main_v10) : FVec Ideal S8x1024x8192 .f32) (ix3 b n k) = prodK m d b n k := by
  rw [VB_v10]
  exact (castD_at _ b n k).trans ((distA_at _ _ _ _).trans (prod_eq m d b n k))

theorem rowOf_eq (b : Fin 8) (n : Fin 1024) (h h') : rowOf ⟨b.val * 4 + n.val / 256, h⟩ ⟨n.val % 256, h'⟩ = flatRow b n :=
  Fin.ext (show (b.val * 4 + n.val / 256) * 256 + n.val % 256 = b.val * 1024 + n.val by omega)

theorem v9_at (d : Dev nD) (b : Fin 8) (n : Fin 1024) :
    ArgMax.First (prodK m d b n) ((VB m d (Proc.devRef .tc main_v9) : IVec S8x1024 32) (ix2 b n)).toNat := by
  rw [VB_v9]
  rw [castI_at]
  have h := indA_at (V0c m) d ⟨b.val * 4 + n.val / 256, by omega⟩ ⟨n.val % 256, by omega⟩
  rw [rowOf_eq] at h
  exact (funext fun k => prod_eq m d b n k : prodOf (V0c m d main_v1) (V0c m d main_v2) (flatRow b n) = prodK m d b n) ▸ h

theorem inRows : InRows (F := Ideal) (IX m) := by
  intro d j
  obtain ⟨r, rfl⟩ : ∃ r : Fin 8192, j = ix2 0 r := ⟨j 1, funext fun a => match a with
    | ⟨0, _⟩ => Subsingleton.elim (α := Fin 1) _ _
    | ⟨1, _⟩ => rfl⟩
  rw [IX_eq]
  rw [castI1_at]
  exact (indA_at (V0c m) d ⟨r.val / 256, by omega⟩ ⟨r.val % 256, by omega⟩).lt

theorem ix_eq (d : Dev nD) (b : Fin 8) (n : Fin 1024) :
    (IX m d : IVec S1x8192 32) (ix2 0 (flatRow b n)) = (VB m d (Proc.devRef .tc main_v9) : IVec S8x1024 32) (ix2 b n) := by
  rw [VB_v9, IX_eq]
  rw [castI_at, castI1_at]
  refine congrArg (indA (V0c m) d : IVec S32x1x256 32) ?_
  funext a
  match a with
  | ⟨0, _⟩ => exact Fin.ext (show (b.val * 1024 + n.val) / 256 = b.val * 4 + n.val / 256 by omega)
  | ⟨1, _⟩ => rfl
  | ⟨2, _⟩ => exact Fin.ext (show (b.val * 1024 + n.val) % 256 = n.val % 256 by omega)

theorem gath_at {F : FTy → Type} {e : EltTy} (TB : S8192x128.Idx → Elt F e) (IX : S1x8192.Idx → BitVec 32) (r : Fin 8192) (l : Fin 128)
    (h : (IX (ix2 0 r)).toNat < 8192) : gath TB IX (ix2 r l) = TB (ix2 ⟨(IX (ix2 0 r)).toNat, h⟩ l) := by
  have hx : IX (ixI r) = IX (ix2 0 r) := congrArg IX (funext fun a => match a with
    | ⟨0, _⟩ => Subsingleton.elim (α := Fin 1) _ _
    | ⟨1, _⟩ => rfl)
  unfold gath
  refine congrArg TB ?_
  funext a
  match a with
  | ⟨0, _⟩ =>
    refine Fin.ext ((dite_val _ (show (IX (ixI r)).toNat < 8192 by rw [hx]; exact h) _).trans ?_)
    rw [hx]
    rfl
  | ⟨1, _⟩ => rfl

theorem slice_at (f : FVec Ideal S8192x128 .f32) (r : Fin 8192) (l : Fin 32) :
    extractStridedSlice S8192x32 ![0, 0] f slices_S8192x128_S8192x32_0_0 (ix2 r l) = f (ix2 r ⟨l.val, by omega⟩) := by
  pointwise

theorem v8_at (d : Dev nD) (b : Fin 8) (n : Fin 1024) (l : Fin 32)
    (h : ((VB m d (Proc.devRef .tc main_v9) : IVec S8x1024 32) (ix2 b n)).toNat < 8192) :
    (VB m d (Proc.devRef .tc main_v8) : FVec Ideal S8x1024x32 .f32) (ix3 b n l)
      = argE m d (ix3 0 ⟨((VB m d (Proc.devRef .tc main_v9) : IVec S8x1024 32) (ix2 b n)).toNat, h⟩ l) := by
  rw [VB_v8]
  rw [castQ_at, slice_at]
  refine (gath_at (F := Ideal) (e := .f32) (TB m d) (IX m d) (flatRow b n) ⟨l.val, by omega⟩ (by rw [ix_eq]; exact h)).trans ?_
  rw [TB_eq, paddedW_at _ _ _ l.isLt, v2_at]
  exact congrArg (fun k => argE m d (ix3 0 k l)) (Fin.ext (congrArg BitVec.toNat (ix_eq m d b n)))

/-! ## The claims -/

variable (ρ : Dev nD → PrngReg)

/-- The program's run, over the reals. -/
theorem run_main :
    θ_run (Cert.KernelIdeal.defs (F := Ideal)) (Cert.KernelIdeal.threads (F := Ideal)) ⟨m, fun _ => 0, ρ⟩ fun r =>
      (∀ c : Dev nD, r.2.mem ((c.tc : Thread nD τ).loc main_v8) = VB m c (Proc.devRef .tc main_v8)
        ∧ r.2.mem ((c.tc : Thread nD τ).loc main_v9) = VB m c (Proc.devRef .tc main_v9)
        ∧ r.2.mem ((c.tc : Thread nD τ).loc main_v10) = VB m c (Proc.devRef .tc main_v10)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run (Cert.KernelIdeal.defs (F := Ideal)) _ _).mono (fun r h => ⟨fun c => ⟨?_, ?_, ?_, ?_, ?_⟩, h.2⟩) (run_all m ρ (inRows m))
  · exact h.1 c (Proc.devRef .tc main_v8) (Finset.mem_filter.mpr ⟨StableHlo.devRef_mem_tcRefs main_v8, by decide⟩)
  · exact h.1 c (Proc.devRef .tc main_v9) (Finset.mem_filter.mpr ⟨StableHlo.devRef_mem_tcRefs main_v9, by decide⟩)
  · exact h.1 c (Proc.devRef .tc main_v10) (Finset.mem_filter.mpr ⟨StableHlo.devRef_mem_tcRefs main_v10, by decide⟩)
  · exact (h.1 c _ (Finset.mem_filter.mpr ⟨StableHlo.devRef_mem_tcRefs main_arg0, by decide⟩)).trans (VB_arg0 m c)
  · exact (h.1 c _ (Finset.mem_filter.mpr ⟨StableHlo.devRef_mem_tcRefs main_arg1, by decide⟩)).trans (VB_arg1 m c)

theorem frame_kernelIdeal : Cert.quiescent_KernelIdeal := fun m ρ _ =>
  (θ_run Cert.KernelIdeal.defs _ _).mono (fun _ h => ⟨fun c => (h.1 c).2.2.2, h.2⟩) (run_main m ρ)

end Cert.Proof.KernelTile

end
-- ==== Proof.RefValue.lean ====
/-
  The plain program's three results over the reals, entry by entry.
-/
module

public import proofs.«01_k».proof.Proof.KernelValue
public import proofs.«01_k».proof.Proof.RefRows

@[expose] public section

noncomputable section

namespace Cert.Proof.RefRows

open Cert.ReferenceIdeal Cert.ReferenceIdeal.Gen
open Idealize.ShloMosaic Idealize.ShloMosaic.TcCoe Idealize.ShloMosaic.StableHlo Idealize.SL.Sem

theorem flatRow_lt (b : Fin 16) (n : Fin 1024) : b.val * 1024 + n.val < 16384 := by have := b.isLt; have := n.isLt; omega
abbrev flatRow (b : Fin 16) (n : Fin 1024) : Fin 16384 := ⟨b.val * 1024 + n.val, flatRow_lt b n⟩

theorem rows_at (x : FVec Ideal S16x1024x32 .f32) (b : Fin 16) (n : Fin 1024) (l : Fin 32) : rows x (ix3 0 (flatRow b n) l) = x (ix3 b n l) := by
  unfold rows
  pointwise
  have h := b.isLt
  have h' := n.isLt
  refine congrArg x ?_
  funext a
  match a with
  | ⟨0, _⟩ => exact Fin.ext (show (b.val * 1024 + n.val) / 1024 = b.val by omega)
  | ⟨1, _⟩ => exact Fin.ext (show (b.val * 1024 + n.val) % 1024 = n.val by omega)
  | ⟨2, _⟩ => rfl

theorem lens_at (v : FVec Ideal S1x16384x32 .f32) (r : Fin 16384) :
    lens v (ix3 0 r 0) = max (Ideal.ofBits .f32 0x2B8CBCCC#32) (Ideal.sqrt (∑ l : Fin 32, v (ix3 0 r l) * v (ix3 0 r l))) := by
  unfold lens
  pointwise

theorem dists_rows (x : FVec Ideal S16x1024x32 .f32) (e : FVec Ideal S1x8192x32 .f32) (r : Fin 16384) (k : Fin 8192) :
    dists x e (ix3 0 r k) = cosine (fun l => rows x (ix3 0 r l)) (fun l => e (ix3 0 k l)) := by
  unfold dists cosine
  generalize rows x = v
  simp only [← lens_at v r]
  generalize lens v = w
  pointwise

theorem dists_at (x : FVec Ideal S16x1024x32 .f32) (e : FVec Ideal S1x8192x32 .f32) (b : Fin 16) (n : Fin 1024) (k : Fin 8192) :
    dists x e (ix3 0 (flatRow b n) k) = cosine (fun l => x (ix3 b n l)) (fun l => e (ix3 0 k l)) :=
  (dists_rows x e _ k).trans (congrArg₂ cosine (funext fun l => rows_at x b n l) rfl)

theorem outD_at (d : FVec Ideal S1x16384x8192 .f32) (b : Fin 16) (n : Fin 1024) (k : Fin 8192) : outD d (ix3 b n k) = d (ix3 0 (flatRow b n) k) := by
  unfold outD
  pointwise

theorem castI_at (i : IVec S1x16384 32) (b : Fin 16) (n : Fin 1024) : shapeCast S1x16x1024 i shapeCasts_S1x16384_S1x16x1024 (ix3 0 b n) = i (ix2 0 (flatRow b n)) := by
  pointwise

theorem outI_at (i : IVec S1x16x1024 32) (b : Fin 16) (n : Fin 1024) : outI i (ix2 b n) = i (ix3 0 b n) := by
  unfold outI
  pointwise

theorem resI_at (d : FVec Ideal S1x16384x8192 .f32) (b : Fin 16) (n : Fin 1024) : resI d (ix3 0 b n) = inds d (ix2 0 (flatRow b n)) :=
  castI_at (inds d) b n

theorem outQ_at (e : FVec Ideal S1x8192x32 .f32) (i : IVec S1x16x1024 32) (b : Fin 16) (n : Fin 1024) (l : Fin 32) :
    outQ e i (ix3 b n l) = taken e i (ix4 0 b n l) := by
  unfold outQ
  generalize taken e i = i
  pointwise

theorem reds : S1x16384x8192.Reduces [2] S1x16384 := by decide

theorem size0 : 0 < S1x16384x8192.size 2 := by show 0 < 8192; omega
theorem size1 : S1x16384x8192.size 2 < 2 ^ 31 := by show 8192 < 2 ^ 31; omega

theorem argF_eq (d : FVec Ideal S1x16384x8192 .f32) (y : IVec S1x16384x8192 32) (u : FVec Ideal S_ .f32) (v : IVec S_ 32) :
    argF d y u v = fun j => (Host.argReduce (reducer_argmax_f32_i32 (F := Ideal)) d y u v reducesTo_S1x16384x8192_S1x16384_d2 h_S_ j).2 := rfl

theorem argF_first (d : FVec Ideal S1x16384x8192 .f32) (y : IVec S1x16384x8192 32) (hy : ∀ i : S1x16384x8192.Idx, y i = BitVec.ofNat 32 (i 2).val)
    (u : FVec Ideal S_ .f32) (v : IVec S_ 32) (hu : ∀ i, u i = ⊥) (hv : ∀ i, v i = 0#32) (j : S1x16384.Idx) :
    ArgMax.First (fun k : Fin (S1x16384x8192.size 2) => d (reds.lift j k)) (argF d y u v j).toNat := by
  have h := ArgMax.argReduce_first reducesTo_S1x16384x8192_S1x16384_d2 reds d y hy u v h_S_ (hu _) (hv _) j size0 size1
  rw [argF_eq]
  exact h

theorem lift_at (r : Fin 16384) (k : Fin 8192) : reds.lift (ix2 0 r) k = ix3 0 r k := by
  funext a
  match a with
  | ⟨0, _⟩ => exact Subsingleton.elim (α := Fin 1) _ _
  | ⟨1, _⟩ => rfl
  | ⟨2, _⟩ => rfl

theorem inds_first (d : FVec Ideal S1x16384x8192 .f32) (r : Fin 16384) :
    ArgMax.First (fun k : Fin 8192 => d (ix3 0 r k)) (inds d (ix2 0 r)).toNat := by
  have h := argF_first d (iotaInDim S1x16384x8192 32 2) (fun _ => rfl) (constant (F := Ideal) S_ .f32 0xFF800000#32) (constantI S_ 32 0#32)
    (fun _ => ArgMax.negInf_eq) (fun _ => rfl) (ix2 0 r)
  have e : (fun k : Fin 8192 => d (reds.lift (ix2 0 r) k)) = fun k : Fin 8192 => d (ix3 0 r k) := funext fun k => congrArg d (lift_at r k)
  exact e ▸ h

/-! ## The codes taken -/

abbrev InRange (i : IVec S1x16x1024 32) : Prop := ∀ p, (i p).toNat < 8192

theorem startCol_at (i : IVec S1x16x1024 32) (h : InRange i) (j : S1x16x1024x1.Idx) : startCol i j = i (ix3 (j 0) (j 1) (j 2)) := by
  have hs : ∀ r : S1x16x1024.Idx, Scalar.select (IntOp.cmpi .slt (i r) 0#32) (IntOp.addi (i r) 8192#32) (i r) = i r := by
    intro r; rw [(TakeRows.word_small _ (h r)).2.1]; rfl
  refine (hs _).trans (congrArg i ?_)
  funext a
  match a with
  | ⟨0, _⟩ => exact Subsingleton.elim (α := Fin 1) _ _
  | ⟨1, _⟩ => rfl
  | ⟨2, _⟩ => rfl

theorem okCol_at (i : IVec S1x16x1024 32) (h : InRange i) (p : S1x16x1024.Idx) : okCol i p = 1#1 := by
  unfold okCol
  rw [Host.reduce_eq_foldl]
  refine TakeRows.foldl_ones _ (fun j => ?_) _
  have e := startCol_at i h j
  show IntOp.andi (IntOp.cmpi .sge (startCol i j) 0#32) (IntOp.cmpi .sle (startCol i j) 8191#32) = 1#1
  rw [e]
  exact (TakeRows.word_small _ (h _)).2.2

theorem gather_at (x : FVec Ideal S1x8192x32 .f32) (i : IVec S1x16x1024x1 32) (b : Fin 16) (n : Fin 1024) (l : Fin 32) :
    Host.gather gather_S1x8192x32_S1x16x1024x1_S1x16x1024x32_3_1_0_0_1_3_1132 x i (ix4 0 b n l)
      = x (ix3 0 ⟨min (i (ix4 0 b n 0)).toInt.toNat 8191, by omega⟩ l) := by
  have hsi : ∀ c, gather_S1x8192x32_S1x16x1024x1_S1x16x1024x32_3_1_0_0_1_3_1132.siIdx (ix4 0 b n l) c = ix4 0 b n 0 := by
    intro c
    have hc : c.val = 0 := by have := c.isLt; change c.val < 1 at this; omega
    funext a
    match a with
    | ⟨0, _⟩ => rfl
    | ⟨1, _⟩ => rfl
    | ⟨2, _⟩ => rfl
    | ⟨3, _⟩ => exact Fin.ext hc
  unfold Host.gather
  refine congrArg x ?_
  funext a
  match a with
  | ⟨0, _⟩ => exact Subsingleton.elim (α := Fin 1) _ _
  | ⟨1, _⟩ => exact Fin.ext (congrArg (fun k => min (i k).toInt.toNat 8191) (hsi _))
  | ⟨2, _⟩ => exact Fin.ext (show 0 + 0 + l.val = l.val by omega)

theorem taken_at (x : FVec Ideal S1x8192x32 .f32) (i : IVec S1x16x1024 32) (h : InRange i) (b : Fin 16) (n : Fin 1024) (l : Fin 32) :
    taken x i (ix4 0 b n l) = x (ix3 0 ⟨(i (ix3 0 b n)).toNat, h _⟩ l) := by
  have hs : taken x i (ix4 0 b n l) = Scalar.select (broadcastInDim S1x16x1024x32 ![0, 1, 2] bcast_S1x16x1024_S1x16x1024x32_0_1_2 (okCol i) (ix4 0 b n l))
    (Host.gather gather_S1x8192x32_S1x16x1024x1_S1x16x1024x32_3_1_0_0_1_3_1132 x (startCol i) (ix4 0 b n l)) (broadcastInDim S1x16x1024x32 ![] bcast_S_S1x16x1024x32 (constant S_ .f32 0x7FC00000#32) (ix4 0 b n l)) := rfl
  rw [hs, show broadcastInDim S1x16x1024x32 ![0, 1, 2] bcast_S1x16x1024_S1x16x1024x32_0_1_2 (okCol i) (ix4 0 b n l) = 1#1 from okCol_at i h _]
  rw [TakeRows.sel_one, gather_at]
  have e2 : min (startCol i (ix4 0 b n 0)).toInt.toNat 8191 = (i (ix3 0 b n)).toNat := by
    rw [show startCol i (ix4 0 b n 0) = i (ix3 0 b n) from startCol_at i h _, (TakeRows.word_small _ (h _)).1]; have := h (ix3 0 b n); omega
  exact congrArg (fun r => x (ix3 0 r l)) (Fin.ext e2)

end Cert.Proof.RefRows

end
-- ==== Proof.Whole.lean ====
/-
  The whole kernel over the reals: on every device its three results are that device's parts of the plain program's.
-/
module

public import proofs.«01_k».proof.Proof.KernelClaims
public import proofs.«01_k».proof.Proof.RefValue

@[expose] public section

noncomputable section

namespace Cert.Proof.Whole

open Idealize.ShloMosaic Idealize.ShloMosaic.TcCoe Idealize.SL.Sem

/-! ## A device's part of an array -/

theorem part_lt (c : Fin 2) (b : Fin 8) : c.val * 8 + b.val < 16 := by have := c.isLt; have := b.isLt; omega
/-- Where entry `b` of device `c`'s part is in the whole. -/
abbrev part (c : Fin 2) (b : Fin 8) : Fin 16 := ⟨c.val * 8 + b.val, part_lt c b⟩

theorem block3 {α : Type} (w : Nat) (h : Layout.Tiles ⟨3, ![8, 1024, w]⟩ ⟨3, ![16, 1024, w]⟩ 0 2) (c : Fin 2)
    (v : (⟨3, ![16, 1024, w]⟩ : Shape).Idx → α) (b : Fin 8) (n : Fin 1024) (l : Fin w) :
    Layout.block ⟨3, ![8, 1024, w]⟩ ⟨3, ![16, 1024, w]⟩ 0 2 c v h (ix3 b n l) = v (ix3 (part c b) n l) := by
  refine congrArg v ?_
  funext a
  match a with
  | ⟨0, _⟩ => rfl
  | ⟨1, _⟩ => rfl
  | ⟨2, _⟩ => rfl

theorem block2 {α : Type} (h : Layout.Tiles ⟨2, ![8, 1024]⟩ ⟨2, ![16, 1024]⟩ 0 2) (c : Fin 2)
    (v : (⟨2, ![16, 1024]⟩ : Shape).Idx → α) (b : Fin 8) (n : Fin 1024) :
    Layout.block ⟨2, ![8, 1024]⟩ ⟨2, ![16, 1024]⟩ 0 2 c v h (ix2 b n) = v (ix2 (part c b) n) := by
  refine congrArg v ?_
  funext a
  match a with
  | ⟨0, _⟩ => rfl
  | ⟨1, _⟩ => rfl

theorem idx3 (w : Nat) (j : (⟨3, ![8, 1024, w]⟩ : Shape).Idx) : ∃ (b : Fin 8) (n : Fin 1024) (l : Fin w), j = ix3 b n l :=
  ⟨j 0, j 1, j 2, funext fun a => match a with
    | ⟨0, _⟩ => rfl
    | ⟨1, _⟩ => rfl
    | ⟨2, _⟩ => rfl⟩
theorem idx2 (j : (⟨2, ![8, 1024]⟩ : Shape).Idx) : ∃ (b : Fin 8) (n : Fin 1024), j = ix2 b n :=
  ⟨j 0, j 1, funext fun a => match a with
    | ⟨0, _⟩ => rfl
    | ⟨1, _⟩ => rfl⟩

/-! ## The plain program's results, entry by entry -/

section Plain

open Cert.ReferenceIdeal Cert.ReferenceIdeal.Gen RefRows

variable (x : FVec Ideal S16x1024x32 .f32) (e : FVec Ideal S1x8192x32 .f32)

abbrev prodR (b : Fin 16) (n : Fin 1024) (k : Fin 8192) : EReal := cosine (fun l => x (ix3 b n l)) (fun l => e (ix3 0 k l))

theorem resI_first (b : Fin 16) (n : Fin 1024) : ArgMax.First (prodR x e b n) (resI (dists x e) (ix3 0 b n)).toNat := by
  rw [resI_at]
  have h := inds_first (dists x e) (RefRows.flatRow b n)
  exact (funext fun k => dists_at x e b n k : (fun k : Fin 8192 => dists x e (ix3 0 (RefRows.flatRow b n) k)) = prodR x e b n) ▸ h

theorem resI_in : RefRows.InRange (resI (dists x e)) := by
  intro p
  obtain ⟨b, n, rfl⟩ : ∃ (b : Fin 16) (n : Fin 1024), p = ix3 0 b n := ⟨p 1, p 2, funext fun a => match a with
    | ⟨0, _⟩ => Subsingleton.elim (α := Fin 1) _ _
    | ⟨1, _⟩ => rfl
    | ⟨2, _⟩ => rfl⟩
  exact (resI_first x e b n).lt

theorem outQ_entry (b : Fin 16) (n : Fin 1024) (l : Fin 32) :
    outQ e (resI (dists x e)) (ix3 b n l) = e (ix3 0 ⟨(resI (dists x e) (ix3 0 b n)).toNat, resI_in x e _⟩ l) :=
  (outQ_at e _ b n l).trans (taken_at e _ (resI_in x e) b n l)

theorem outD_entry (b : Fin 16) (n : Fin 1024) (k : Fin 8192) : outD (dists x e) (ix3 b n k) = prodR x e b n k :=
  (outD_at _ b n k).trans (dists_at x e b n k)

end Plain

/-! ## Equal -/

section Equal

open Cert.KernelIdeal KernelTile

variable (m : (ℓ : Loc nD τ sig) → Buf (Elt Ideal) ℓ) (x : FVec Ideal Cert.ReferenceIdeal.S16x1024x32 .f32) (e : FVec Ideal Cert.ReferenceIdeal.S1x8192x32 .f32)
  (c : Dev nD) (hx : argX m c = Layout.block ⟨3, ![8, 1024, 32]⟩ ⟨3, ![16, 1024, 32]⟩ 0 2 c x) (he : argE m c = e)

include hx he

omit hx he in
theorem row_eq (e : FVec Ideal S1x8192x32 .f32) (l : Fin 32) (p q : Nat) (hp : p < 8192) (hq : q < 8192) (h : p = q) :
    e (ix3 0 ⟨p, hp⟩ l) = e (ix3 0 ⟨q, hq⟩ l) := by
  subst h
  rfl

theorem prod_part (b : Fin 8) (n : Fin 1024) (k : Fin 8192) : prodK m c b n k = prodR x e (part c b) n k := by
  refine congrArg₂ cosine (funext fun l => ?_) (funext fun l => ?_)
  · rw [hx]; exact block3 32 _ c x b n l
  · rw [he]

theorem word_part (b : Fin 8) (n : Fin 1024) :
    (VB m c (Proc.devRef .tc main_v9) : IVec S8x1024 32) (ix2 b n) = RefRows.resI (RefRows.dists x e) (ix3 0 (part c b) n) := by
  have h := v9_at m c b n
  rw [show prodK m c b n = prodR x e (part c b) n from funext fun k => prod_part m x e c hx he b n k] at h
  exact BitVec.eq_of_toNat_eq (h.unique (resI_first x e (part c b) n))

theorem v9_part : VB m c (Proc.devRef .tc main_v9) = Layout.block ⟨2, ![8, 1024]⟩ ⟨2, ![16, 1024]⟩ 0 2 c (RefRows.outI (RefRows.resI (RefRows.dists x e))) := by
  funext j
  obtain ⟨b, n, rfl⟩ := idx2 j
  exact ((word_part m x e c hx he b n).trans (RefRows.outI_at _ (part c b) n).symm).trans (block2 _ c _ b n).symm

theorem v8_part : VB m c (Proc.devRef .tc main_v8) = Layout.block ⟨3, ![8, 1024, 32]⟩ ⟨3, ![16, 1024, 32]⟩ 0 2 c (RefRows.outQ e (RefRows.resI (RefRows.dists x e))) := by
  funext j
  obtain ⟨b, n, l, rfl⟩ := idx3 32 j
  refine ((v8_at m c b n l (v9_at m c b n).lt).trans ?_).trans ((outQ_entry x e (part c b) n l).symm.trans (block3 32 _ c _ b n l).symm)
  rw [he]
  exact row_eq e l _ _ _ _ (congrArg BitVec.toNat (word_part m x e c hx he b n))

theorem v10_part : VB m c (Proc.devRef .tc main_v10) = Layout.block ⟨3, ![8, 1024, 8192]⟩ ⟨3, ![16, 1024, 8192]⟩ 0 2 c (RefRows.outD (RefRows.dists x e)) := by
  funext j
  obtain ⟨b, n, k, rfl⟩ := idx3 8192 j
  exact ((v10_at m c b n k).trans (prod_part m x e c hx he b n k)).trans ((outD_entry x e (part c b) n k).symm.trans (block3 8192 _ c _ b n k).symm)

end Equal

theorem algebraic_whole : Cert.algebraic_KernelIdeal_ReferenceIdeal := fun m ρ m' ρ' _ hag =>
  ⟨RefRows.outQ (F := Ideal) (m' (((0 : Dev Cert.ReferenceIdeal.nD).tc : Thread Cert.ReferenceIdeal.nD Cert.ReferenceIdeal.τ).loc Cert.ReferenceIdeal.main_arg1))
      (RefRows.resI (F := Ideal) (RefRows.dists (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))),
    RefRows.outI (RefRows.resI (F := Ideal) (RefRows.dists (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))),
    RefRows.outD (F := Ideal) (RefRows.dists (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))),
    (θ_run Cert.KernelIdeal.defs _ _).mono (fun _ h c =>
      ⟨(h.1 c).1.trans (v8_part m _ _ c (hag c).1 (hag c).2), (h.1 c).2.1.trans (v9_part m _ _ c (hag c).1 (hag c).2),
        (h.1 c).2.2.1.trans (v10_part m _ _ c (hag c).1 (hag c).2), (h.1 c).2.2.2⟩) (KernelTile.run_main m ρ),
    (θ_run Cert.ReferenceIdeal.defs _ _).mono (fun _ h => h.1 0) (RefRows.run_main (F := Ideal) m' ρ')⟩

end Cert.Proof.Whole

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Sim
public import proofs.«01_k».proof.Proof.Gen.Sim.Frame
public import proofs.«01_k».proof.Proof.Gen.SimIdeal
public import proofs.«01_k».proof.Proof.Gen.SimIdeal.Frame
public import proofs.«01_k».proof.Proof.Gen.Pre_no_tie_rows
public import proofs.«01_k».proof.Proof.Gen.Pre_in_range
public import proofs.«01_k».proof.Proof.Gen.Pre_no_tie_KernelIdeal
public import proofs.«01_k».proof.Proof.Gen.Pre_no_tie_ReferenceIdeal
public import proofs.«01_k».proof.Proof.GatherClaims
public import proofs.«01_k».proof.Proof.KernelClaims
public import proofs.«01_k».proof.Proof.Whole

@[expose] public section

noncomputable section

namespace Cert.Proof

theorem claim : Cert.Claim :=
  ⟨Cert.Gather.Gen.facts, Cert.GatherIdeal.Gen.facts, Cert.TakeIdeal.Gen.facts, Cert.Take.Gen.facts, Cert.Sim.Gen.facts,
    Cert.SimIdeal.Gen.facts, Cert.KernelIdeal.Gen.facts, Cert.ReferenceIdeal.Gen.facts, Cert.Pre_in_range.Gen.facts,
    Cert.Pre_no_tie_rows.Gen.facts, Cert.Pre_no_tie_KernelIdeal.Gen.facts, Cert.Pre_no_tie_ReferenceIdeal.Gen.facts,
    GatherTile.frame_gather, GatherTile.frame_gatherIdeal, GatherTile.frame_takeIdeal, GatherTile.frame_takeIdeal_pre, GatherTile.frame_take,
    fun m ρ _ => Cert.Sim.Gen.frame m ρ, fun m ρ _ => Cert.Sim.Gen.frame m ρ, fun m ρ _ => Cert.SimIdeal.Gen.frame m ρ,
    KernelTile.frame_kernelIdeal, RefRows.frame_reference, RefRows.frame_reference_pre, trivial,
    GatherTile.algebraic_gather, GatherTile.bitexact_gather, trivial, Whole.algebraic_whole⟩

end Cert.Proof

end
